-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x7168 : Shape := ⟨3, ![256, 1, 7168]⟩
abbrev S16128x3584 : Shape := ⟨2, ![16128, 3584]⟩
abbrev S16128x224 : Shape := ⟨2, ![16128, 224]⟩
abbrev S256x28x8x2x16 : Shape := ⟨5, ![256, 28, 8, 2, 16]⟩
abbrev S256x28x2x8x16 : Shape := ⟨5, ![256, 28, 2, 8, 16]⟩
abbrev S256x7168 : Shape := ⟨2, ![256, 7168]⟩
abbrev S1x256 : Shape := ⟨2, ![1, 256]⟩
abbrev S768x3584 : Shape := ⟨2, ![768, 3584]⟩
abbrev S768x224 : Shape := ⟨2, ![768, 224]⟩
abbrev S8x256 : Shape := ⟨2, ![8, 256]⟩
abbrev S768x32 : Shape := ⟨2, ![768, 32]⟩
abbrev S768x96 : Shape := ⟨2, ![768, 96]⟩
abbrev S768x128 : Shape := ⟨2, ![768, 128]⟩
abbrev S192x128 : Shape := ⟨2, ![192, 128]⟩
abbrev S768x128x1 : Shape := ⟨3, ![768, 128, 1]⟩
abbrev S768x256 : Shape := ⟨2, ![768, 256]⟩
abbrev S768x7168 : Shape := ⟨2, ![768, 7168]⟩
abbrev S256 : Shape := ⟨1, ![256]⟩

abbrev nBuf : Space → Nat
  | .hbm => 9
  | .vmem => 11
  | .smem => 0
  | _ => 0

abbrev bufTy : (tb : Table) → Fin (tcTables nBuf tb) → BufTy
  | .hbm, ⟨0, _⟩ => ⟨S256x1x7168, .bf16⟩
  | .hbm, ⟨1, _⟩ => ⟨S16128x3584, .i8⟩
  | .hbm, ⟨2, _⟩ => ⟨S16128x224, .bf16⟩
  | .hbm, ⟨3, _⟩ => ⟨S256x28x8x2x16, .bf16⟩
  | .hbm, ⟨4, _⟩ => ⟨S256x28x2x8x16, .bf16⟩
  | .hbm, ⟨5, _⟩ => ⟨S256x7168, .bf16⟩
  | .hbm, ⟨6, _⟩ => ⟨S1x256, .i32⟩
  | .hbm, ⟨7, _⟩ => ⟨S1x256, .f32⟩
  | .hbm, ⟨8, _⟩ => ⟨S1x256, .f32⟩
  | .local _ .vmem, ⟨0, _⟩ => ⟨S256x7168, .bf16⟩
  | .local _ .vmem, ⟨1, _⟩ => ⟨S768x3584, .i8⟩
  | .local _ .vmem, ⟨2, _⟩ => ⟨S768x3584, .i8⟩
  | .local _ .vmem, ⟨3, _⟩ => ⟨S768x224, .bf16⟩
  | .local _ .vmem, ⟨4, _⟩ => ⟨S768x224, .bf16⟩
  | .local _ .vmem, ⟨5, _⟩ => ⟨S1x256, .i32⟩
  | .local _ .vmem, ⟨6, _⟩ => ⟨S1x256, .f32⟩
  | .local _ .vmem, ⟨7, _⟩ => ⟨S1x256, .f32⟩
  | .local _ .vmem, ⟨8, _⟩ => ⟨S8x256, .f32⟩
  | .local _ .vmem, ⟨9, _⟩ => ⟨S8x256, .f32⟩
  | .local _ .vmem, ⟨10, _⟩ => ⟨S8x256, .i32⟩
  | _, _ => ⟨S256x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![21], ![false]⟩

def k0_cond2 (i : grid0.Coords) : BitVec 1 :=
  let arg0 : BitVec 32 := BitVec.ofNat 32 (i 0).val
  let c20_i32_557 : BitVec 32 := 20#32
  let v2430 : BitVec 1 := Scalar.cmpi .eq arg0 c20_i32_557
  let v2431 : BitVec 32 := Scalar.extui v2430
  let c0_i32_558 : BitVec 32 := 0#32
  let v2432 : BitVec 1 := Scalar.cmpi .ne v2431 c0_i32_558
  v2432

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x224 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S256x1x7168 : Shape := ⟨3, ![256, 1, 7168]⟩
abbrev S16128x3584 : Shape := ⟨2, ![16128, 3584]⟩
abbrev S16128x224 : Shape := ⟨2, ![16128, 224]⟩
abbrev S256x224x32 : Shape := ⟨3, ![256, 224, 32]⟩
abbrev S256x224x16 : Shape := ⟨3, ![256, 224, 16]⟩
abbrev S256x3584 : Shape := ⟨2, ![256, 3584]⟩
abbrev S16128x224x16 : Shape := ⟨3, ![16128, 224, 16]⟩
abbrev S_ : Shape := ⟨0, ![]⟩
abbrev S256x16128 : Shape := ⟨2, ![256, 16128]⟩
abbrev S256x1x16128 : Shape := ⟨3, ![256, 1, 16128]⟩
abbrev S256x1 : Shape := ⟨2, ![256, 1]⟩
abbrev S256x1x1 : Shape := ⟨3, ![256, 1, 1]⟩
abbrev S1x256 : Shape := ⟨2, ![1, 256]⟩

abbrev nBuf : Space → Nat
  | .hbm => 53
  | .vmem => 0
  | .smem => 0
  | _ => 0

abbrev bufTy : (tb : Table) → Fin (tcTables nBuf tb) → BufTy
  | .hbm, ⟨0, _⟩ => ⟨S256x1x7168, .bf16⟩
  | .hbm, ⟨1, _⟩ => ⟨S16128x3584, .i8⟩
  | .hbm, ⟨2, _⟩ => ⟨S16128x224, .bf16⟩
  | .hbm, ⟨3, _⟩ => ⟨S256x224x32, .bf16⟩
  | .hbm, ⟨4, _⟩ => ⟨S256x224x16, .bf16⟩
  | .hbm, ⟨5, _⟩ => ⟨S256x3584, .bf16⟩
  | .hbm, ⟨6, _⟩ => ⟨S256x224x16, .bf16⟩
  | .hbm, ⟨7, _⟩ => ⟨S256x3584, .bf16⟩
  | .hbm, ⟨8, _⟩ => ⟨S16128x224x16, .bf16⟩
  | .hbm, ⟨9, _⟩ => ⟨S16128x3584, .bf16⟩
  | .hbm, ⟨10, _⟩ => ⟨S16128x3584, .i32⟩
  | .hbm, ⟨11, _⟩ => ⟨S_, .i32⟩
  | .hbm, ⟨12, _⟩ => ⟨S16128x3584, .i32⟩
  | .hbm, ⟨13, _⟩ => ⟨S16128x3584, .i32⟩
  | .hbm, ⟨14, _⟩ => ⟨S16128x3584, .bf16⟩
  | .hbm, ⟨15, _⟩ => ⟨S_, .bf16⟩
  | .hbm, ⟨16, _⟩ => ⟨S16128x3584, .bf16⟩
  | .hbm, ⟨17, _⟩ => ⟨S16128x3584, .bf16⟩
  | .hbm, ⟨18, _⟩ => ⟨S16128x3584, .bf16⟩
  | .hbm, ⟨19, _⟩ => ⟨S16128x3584, .i32⟩
  | .hbm, ⟨20, _⟩ => ⟨S_, .i32⟩
  | .hbm, ⟨21, _⟩ => ⟨S16128x3584, .i32⟩
  | .hbm, ⟨22, _⟩ => ⟨S16128x3584, .i32⟩
  | .hbm, ⟨23, _⟩ => ⟨S16128x3584, .bf16⟩
  | .hbm, ⟨24, _⟩ => ⟨S_, .bf16⟩
  | .hbm, ⟨25, _⟩ => ⟨S16128x3584, .bf16⟩
  | .hbm, ⟨26, _⟩ => ⟨S16128x3584, .bf16⟩
  | .hbm, ⟨27, _⟩ => ⟨S16128x3584, .bf16⟩
  | .hbm, ⟨28, _⟩ => ⟨S256x16128, .f32⟩
  | .hbm, ⟨29, _⟩ => ⟨S256x16128, .f32⟩
  | .hbm, ⟨30, _⟩ => ⟨S256x16128, .f32⟩
  | .hbm, ⟨31, _⟩ => ⟨S256x1x16128, .f32⟩
  | .hbm, ⟨32, _⟩ => ⟨S_, .f32⟩
  | .hbm, ⟨33, _⟩ => ⟨S256x1, .f32⟩
  | .hbm, ⟨34, _⟩ => ⟨S256x1x16128, .i32⟩
  | .hbm, ⟨35, _⟩ => ⟨S_, .f32⟩
  | .hbm, ⟨36, _⟩ => ⟨S_, .i32⟩
  | .hbm, ⟨37, _⟩ => ⟨S256x1, .f32⟩
  | .hbm, ⟨38, _⟩ => ⟨S256x1, .i32⟩
  | .hbm, ⟨39, _⟩ => ⟨S256x1x16128, .i32⟩
  | .hbm, ⟨40, _⟩ => ⟨S256x1x1, .i32⟩
  | .hbm, ⟨41, _⟩ => ⟨S256x1x16128, .i32⟩
  | .hbm, ⟨42, _⟩ => ⟨S256x1x16128, .i1⟩
  | .hbm, ⟨43, _⟩ => ⟨S_, .f32⟩
  | .hbm, ⟨44, _⟩ => ⟨S_, .f32⟩
  | .hbm, ⟨45, _⟩ => ⟨S256x1x16128, .f32⟩
  | .hbm, ⟨46, _⟩ => ⟨S256x1x16128, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S1x256, .i32⟩
  | .hbm, ⟨51, _⟩ => ⟨S1x256, .f32⟩
  | .hbm, ⟨52, _⟩ => ⟨S1x256, .f32⟩
  | _, _ => ⟨S256x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_call0_v0 : Ref sig .tc := ⟨.hbm, 34, rfl⟩
abbrev main_call0_cst : Ref sig .tc := ⟨.hbm, 35, rfl⟩
abbrev main_call0_c : Ref sig .tc := ⟨.hbm, 36, rfl⟩
abbrev main_call0_v1_0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.RefRun.lean ====
/-
  The run of the reference program, by hand.

  @main of the reference is a straight line of host operations. `ops` is that line as a list; `main_eq` says the program
  is the list run in order; `run` reads what it leaves: the three results are `tok`, `margin` and `top` of the logits
  (`logits`), each laid out as one row of 256, and the arguments are unchanged. The definitions before `ops` name the
  intermediate values in the mathematics' words, for the modules that read them at an index.
-/
module

public import proofs.«01_k».proof.Proof.Gen.ReferenceIdeal
public import Idealize.ShloMosaic.Lib.StableHlo.Run
public import Idealize.ShloMosaic.Adequacy
public import Idealize.ShloMosaic.Init

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The values -/

/-- The activations of token `t` that meet the low nibbles: of each group of 32, the first 16. -/
def xLo (x : (⟨S256x1x7168, .bf16⟩ : BufTy).Contents (Elt F)) : (⟨S256x3584, .bf16⟩ : BufTy).Contents (Elt F) :=
  shapeCast _ (extractStridedSlice S256x224x16 ![0, 0, 0] (shapeCast _ x shapeCasts_S256x1x7168_S256x224x32) slices_S256x224x32_S256x224x16_0_0_0) shapeCasts_S256x224x16_S256x3584

/-- The activations that meet the high nibbles: of each group of 32, the last 16. -/
def xHi (x : (⟨S256x1x7168, .bf16⟩ : BufTy).Contents (Elt F)) : (⟨S256x3584, .bf16⟩ : BufTy).Contents (Elt F) :=
  shapeCast _ (extractStridedSlice S256x224x16 ![0, 0, 16] (shapeCast _ x shapeCasts_S256x1x7168_S256x224x32) slices_S256x224x32_S256x224x16_0_0_16) shapeCasts_S256x224x16_S256x3584

/-- The scales, each repeated over its group's 16 columns of packed bytes. -/
def sc (s : (⟨S16128x224, .bf16⟩ : BufTy).Contents (Elt F)) : (⟨S16128x3584, .bf16⟩ : BufTy).Contents (Elt F) :=
  shapeCast _ (broadcastInDim S16128x224x16 ![0, 1] bcast_S16128x224_S16128x224x16_0_1 s) shapeCasts_S16128x224x16_S16128x3584

/-- The dequantized low nibbles. -/
def wLo (w : (⟨S16128x3584, .i8⟩ : BufTy).Contents (Elt F)) (s : (⟨S16128x224, .bf16⟩ : BufTy).Contents (Elt F)) : (⟨S16128x3584, .bf16⟩ : BufTy).Contents (Elt F) :=
  mulf (subf (sitofp .bf16 (andi (extui 32 w natLt_8_32) (broadcastInDim S16128x3584 ![] bcast_S_S16128x3584 (constantI S_ 32 15#32)))) (broadcastInDim S16128x3584 ![] bcast_S_S16128x3584 (constant S_ .bf16 0x4100#16))) (sc s)

/-- The dequantized high nibbles. -/
def wHi (w : (⟨S16128x3584, .i8⟩ : BufTy).Contents (Elt F)) (s : (⟨S16128x224, .bf16⟩ : BufTy).Contents (Elt F)) : (⟨S16128x3584, .bf16⟩ : BufTy).Contents (Elt F) :=
  mulf (subf (sitofp .bf16 (Host.shrsi (extui 32 w natLt_8_32) (broadcastInDim S16128x3584 ![] bcast_S_S16128x3584 (constantI S_ 32 4#32)))) (broadcastInDim S16128x3584 ![] bcast_S_S16128x3584 (constant S_ .bf16 0x4100#16))) (sc s)

/-- The logits, one row of 16128 per token: the low nibbles' product plus the high nibbles'. -/
def logits (x : (⟨S256x1x7168, .bf16⟩ : BufTy).Contents (Elt F)) (w : (⟨S16128x3584, .i8⟩ : BufTy).Contents (Elt F)) (s : (⟨S16128x224, .bf16⟩ : BufTy).Contents (Elt F)) :
    (⟨S256x1x16128, .f32⟩ : BufTy).Contents (Elt F) :=
  shapeCast _ (addf (Host.dotGeneral dot_S256x3584_S16128x3584_S256x16128_1_1_0_0_n_n none (xLo x) (wLo w s)) (Host.dotGeneral dot_S256x3584_S16128x3584_S256x16128_1_1_0_0_n_n none (xHi x) (wHi w s)) : (⟨S256x16128, .f32⟩ : BufTy).Contents (Elt F)) shapeCasts_S256x16128_S256x1x16128

/-- The greatest logit of each token. -/
def top (L : (⟨S256x1x16128, .f32⟩ : BufTy).Contents (Elt F)) : (⟨S256x1, .f32⟩ : BufTy).Contents (Elt F) :=
  Host.reduce FloatOps.maximumf L (constant S_ .f32 0xFF800000#32) reducesTo_S256x1x16128_S256x1_d2 h_S_

/-- The index of each token's greatest logit. -/
def tok (L : (⟨S256x1x16128, .f32⟩ : BufTy).Contents (Elt F)) : (⟨S256x1, .i32⟩ : BufTy).Contents (Elt F) :=
  fun j => (Host.argReduce reducer_argmax_f32_i32 L (iotaInDim S256x1x16128 32 2) (constant S_ .f32 0xFF800000#32) (constantI S_ 32 0#32) reducesTo_S256x1x16128_S256x1_d2 h_S_ j).2

/-- The logits with the one at each token's `tok` replaced by minus infinity. -/
def rest (L : (⟨S256x1x16128, .f32⟩ : BufTy).Contents (Elt F)) : (⟨S256x1x16128, .f32⟩ : BufTy).Contents (Elt F) :=
  select (cmpi .eq (iotaInDim S256x1x16128 32 2) (broadcastInDim S256x1x16128 ![0, 1, 2] bcast_S256x1x1_S256x1x16128_0_1_2 (broadcastInDim S256x1x1 ![0, 1] bcast_S256x1_S256x1x1_0_1 (tok L))))
    (broadcastInDim S256x1x16128 ![] bcast_S_S256x1x16128 (constant S_ .f32 0xFF800000#32)) L

/-! ## The program as a list -/

/-- The operations through the logits. -/
abbrev opsL : List (HloOp τ sig (Elt F)) :=
  [ reshape main_arg0 main_v0 (rfl : (.bf16 : EltTy) = .bf16) shapeCasts_S256x1x7168_S256x224x32,
    unary main_v0 main_v1 ((extractStridedSlice S256x224x16 ![0, 0, 0] · slices_S256x224x32_S256x224x16_0_0_0) : (⟨S256x224x32, .bf16⟩ : BufTy).Contents (Elt F) → (⟨S256x224x16, .bf16⟩ : BufTy).Contents (Elt F)),
    reshape main_v1 main_v2 (rfl : (.bf16 : EltTy) = .bf16) shapeCasts_S256x224x16_S256x3584,
    unary main_v0 main_v3 ((extractStridedSlice S256x224x16 ![0, 0, 16] · slices_S256x224x32_S256x224x16_0_0_16) : (⟨S256x224x32, .bf16⟩ : BufTy).Contents (Elt F) → (⟨S256x224x16, .bf16⟩ : BufTy).Contents (Elt F)),
    reshape main_v3 main_v4 (rfl : (.bf16 : EltTy) = .bf16) shapeCasts_S256x224x16_S256x3584,
    unary main_arg2 main_v5 (broadcastInDim S16128x224x16 ![0, 1] bcast_S16128x224_S16128x224x16_0_1 : (⟨S16128x224, .bf16⟩ : BufTy).Contents (Elt F) → (⟨S16128x224x16, .bf16⟩ : BufTy).Contents (Elt F)),
    reshape main_v5 main_v6 (rfl : (.bf16 : EltTy) = .bf16) shapeCasts_S16128x224x16_S16128x3584,
    unary main_arg1 main_v7 ((extui 32 · natLt_8_32) : (⟨S16128x3584, .i8⟩ : BufTy).Contents (Elt F) → (⟨S16128x3584, .i32⟩ : BufTy).Contents (Elt F)),
    nullary main_c (constantI S_ 32 15#32),
    unary main_c main_v8 (broadcastInDim S16128x3584 ![] bcast_S_S16128x3584 : (⟨S_, .i32⟩ : BufTy).Contents (Elt F) → (⟨S16128x3584, .i32⟩ : BufTy).Contents (Elt F)),
    binary main_v7 main_v8 main_v9 (andi : (⟨S16128x3584, .i32⟩ : BufTy).Contents (Elt F) → (⟨S16128x3584, .i32⟩ : BufTy).Contents (Elt F) → (⟨S16128x3584, .i32⟩ : BufTy).Contents (Elt F)),
    unary main_v9 main_v10 (sitofp .bf16 : (⟨S16128x3584, .i32⟩ : BufTy).Contents (Elt F) → (⟨S16128x3584, .bf16⟩ : BufTy).Contents (Elt F)),
    nullary main_cst (constant S_ .bf16 0x4100#16),
    unary main_cst main_v11 (broadcastInDim S16128x3584 ![] bcast_S_S16128x3584 : (⟨S_, .bf16⟩ : BufTy).Contents (Elt F) → (⟨S16128x3584, .bf16⟩ : BufTy).Contents (Elt F)),
    binary main_v10 main_v11 main_v12 (subf : (⟨S16128x3584, .bf16⟩ : BufTy).Contents (Elt F) → (⟨S16128x3584, .bf16⟩ : BufTy).Contents (Elt F) → (⟨S16128x3584, .bf16⟩ : BufTy).Contents (Elt F)),
    binary main_v12 main_v6 main_v13 (mulf : (⟨S16128x3584, .bf16⟩ : BufTy).Contents (Elt F) → (⟨S16128x3584, .bf16⟩ : BufTy).Contents (Elt F) → (⟨S16128x3584, .bf16⟩ : BufTy).Contents (Elt F)),
    unary main_arg1 main_v14 ((extui 32 · natLt_8_32) : (⟨S16128x3584, .i8⟩ : BufTy).Contents (Elt F) → (⟨S16128x3584, .i32⟩ : BufTy).Contents (Elt F)),
    nullary main_c_0 (constantI S_ 32 4#32),
    unary main_c_0 main_v15 (broadcastInDim S16128x3584 ![] bcast_S_S16128x3584 : (⟨S_, .i32⟩ : BufTy).Contents (Elt F) → (⟨S16128x3584, .i32⟩ : BufTy).Contents (Elt F)),
    binary main_v14 main_v15 main_v16 (Host.shrsi : (⟨S16128x3584, .i32⟩ : BufTy).Contents (Elt F) → (⟨S16128x3584, .i32⟩ : BufTy).Contents (Elt F) → (⟨S16128x3584, .i32⟩ : BufTy).Contents (Elt F)),
    unary main_v16 main_v17 (sitofp .bf16 : (⟨S16128x3584, .i32⟩ : BufTy).Contents (Elt F) → (⟨S16128x3584, .bf16⟩ : BufTy).Contents (Elt F)),
    nullary main_cst_1 (constant S_ .bf16 0x4100#16),
    unary main_cst_1 main_v18 (broadcastInDim S16128x3584 ![] bcast_S_S16128x3584 : (⟨S_, .bf16⟩ : BufTy).Contents (Elt F) → (⟨S16128x3584, .bf16⟩ : BufTy).Contents (Elt F)),
    binary main_v17 main_v18 main_v19 (subf : (⟨S16128x3584, .bf16⟩ : BufTy).Contents (Elt F) → (⟨S16128x3584, .bf16⟩ : BufTy).Contents (Elt F) → (⟨S16128x3584, .bf16⟩ : BufTy).Contents (Elt F)),
    binary main_v19 main_v6 main_v20 (mulf : (⟨S16128x3584, .bf16⟩ : BufTy).Contents (Elt F) → (⟨S16128x3584, .bf16⟩ : BufTy).Contents (Elt F) → (⟨S16128x3584, .bf16⟩ : BufTy).Contents (Elt F)),
    binary main_v2 main_v13 main_v21 ((fun l r => Host.dotGeneral dot_S256x3584_S16128x3584_S256x16128_1_1_0_0_n_n none l r) : (⟨S256x3584, .bf16⟩ : BufTy).Contents (Elt F) → (⟨S16128x3584, .bf16⟩ : BufTy).Contents (Elt F) → (⟨S256x16128, .f32⟩ : BufTy).Contents (Elt F)),
    binary main_v4 main_v20 main_v22 ((fun l r => Host.dotGeneral dot_S256x3584_S16128x3584_S256x16128_1_1_0_0_n_n none l r) : (⟨S256x3584, .bf16⟩ : BufTy).Contents (Elt F) → (⟨S16128x3584, .bf16⟩ : BufTy).Contents (Elt F) → (⟨S256x16128, .f32⟩ : BufTy).Contents (Elt F)),
    binary main_v21 main_v22 main_v23 (addf : (⟨S256x16128, .f32⟩ : BufTy).Contents (Elt F) → (⟨S256x16128, .f32⟩ : BufTy).Contents (Elt F) → (⟨S256x16128, .f32⟩ : BufTy).Contents (Elt F)),
    reshape main_v23 main_v24 (rfl : (.f32 : EltTy) = .f32) shapeCasts_S256x16128_S256x1x16128 ]

/-- The operations from the logits to the results, at any functions `mx`, `am`, `ax` in the places of the two maxima and
    of the two results of the argument of the maximum (a called function's operations stand in its call's place). -/
abbrev opsG (mx : (⟨S256x1x16128, .f32⟩ : BufTy).Contents (Elt F) → (⟨S_, .f32⟩ : BufTy).Contents (Elt F) → (⟨S256x1, .f32⟩ : BufTy).Contents (Elt F))
    (am : (⟨S256x1x16128, .f32⟩ : BufTy).Contents (Elt F) → (⟨S256x1x16128, .i32⟩ : BufTy).Contents (Elt F) → (⟨S_, .f32⟩ : BufTy).Contents (Elt F) → (⟨S_, .i32⟩ : BufTy).Contents (Elt F) → (⟨S256x1, .f32⟩ : BufTy).Contents (Elt F))
    (ax : (⟨S256x1x16128, .f32⟩ : BufTy).Contents (Elt F) → (⟨S256x1x16128, .i32⟩ : BufTy).Contents (Elt F) → (⟨S_, .f32⟩ : BufTy).Contents (Elt F) → (⟨S_, .i32⟩ : BufTy).Contents (Elt F) → (⟨S256x1, .i32⟩ : BufTy).Contents (Elt F)) : List (HloOp τ sig (Elt F)) :=
  [ nullary main_cst_2 (constant S_ .f32 0xFF800000#32),
    binary main_v24 main_cst_2 main_v25 mx,
    nullary main_call0_v0 (iotaInDim S256x1x16128 32 2),
    nullary main_call0_cst (constant S_ .f32 0xFF800000#32),
    nullary main_call0_c (constantI S_ 32 0#32),
    quaternary main_v24 main_call0_v0 main_call0_cst main_call0_c main_call0_v1_0 am,
    quaternary main_v24 main_call0_v0 main_call0_cst main_call0_c main_v26 ax,
    nullary main_v27 (iotaInDim S256x1x16128 32 2),
    unary main_v26 main_v28 (broadcastInDim S256x1x1 ![0, 1] bcast_S256x1_S256x1x1_0_1 : (⟨S256x1, .i32⟩ : BufTy).Contents (Elt F) → (⟨S256x1x1, .i32⟩ : BufTy).Contents (Elt F)),
    unary main_v28 main_v29 (broadcastInDim S256x1x16128 ![0, 1, 2] bcast_S256x1x1_S256x1x16128_0_1_2 : (⟨S256x1x1, .i32⟩ : BufTy).Contents (Elt F) → (⟨S256x1x16128, .i32⟩ : BufTy).Contents (Elt F)),
    binary main_v27 main_v29 main_v30 (cmpi .eq : (⟨S256x1x16128, .i32⟩ : BufTy).Contents (Elt F) → (⟨S256x1x16128, .i32⟩ : BufTy).Contents (Elt F) → (⟨S256x1x16128, .i1⟩ : BufTy).Contents (Elt F)),
    nullary main_cst_3 (constant S_ .f32 0xFF800000#32),
    unary main_cst_3 main_call1_v0 id,
    unary main_call1_v0 main_call1_v1 (broadcastInDim S256x1x16128 ![] bcast_S_S256x1x16128),
    ternary main_v30 main_call1_v1 main_v24 main_v31 select,
    nullary main_cst_4 (constant S_ .f32 0xFF800000#32),
    binary main_v31 main_cst_4 main_v32 mx,
    binary main_v25 main_v32 main_v33 (subf : (⟨S256x1, .f32⟩ : BufTy).Contents (Elt F) → (⟨S256x1, .f32⟩ : BufTy).Contents (Elt F) → (⟨S256x1, .f32⟩ : BufTy).Contents (Elt F)),
    reshape main_v26 main_v34 (rfl : (.i32 : EltTy) = .i32) shapeCasts_S256x1_S1x256,
    reshape main_v33 main_v35 (rfl : (.f32 : EltTy) = .f32) shapeCasts_S256x1_S1x256,
    reshape main_v25 main_v36 (rfl : (.f32 : EltTy) = .f32) shapeCasts_S256x1_S1x256 ]

/-- The operations from the logits to the results. -/
abbrev opsR : List (HloOp τ sig (Elt F)) :=
  opsG (fun x v => Host.reduce FloatOps.maximumf x v reducesTo_S256x1x16128_S256x1_d2 h_S_)
    (fun x y u v j => (Host.argReduce reducer_argmax_f32_i32 x y u v reducesTo_S256x1x16128_S256x1_d2 h_S_ j).1)
    (fun x y u v j => (Host.argReduce reducer_argmax_f32_i32 x y u v reducesTo_S256x1x16128_S256x1_d2 h_S_ j).2)

/-- @main's operations, in order. -/
abbrev ops : List (HloOp τ sig (Elt F)) := opsL ++ opsR

set_option maxRecDepth 8192 in
/-- The program is its operations run in order. -/
theorem main_eq (c : Dev nD) : main (F := F) c = seq ops := rfl
/-- No buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide
set_option maxRecDepth 8192 in
/-- Every operation's buffers are the TensorCore's. -/
theorem ops_sub : (ops : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub ..,
    nullary_bufs_sub .., unary_bufs_sub .., binary_bufs_sub .., unary_bufs_sub .., nullary_bufs_sub .., unary_bufs_sub .., binary_bufs_sub .., binary_bufs_sub ..,
    unary_bufs_sub .., nullary_bufs_sub .., unary_bufs_sub .., binary_bufs_sub .., unary_bufs_sub .., nullary_bufs_sub .., unary_bufs_sub .., binary_bufs_sub ..,
    binary_bufs_sub .., binary_bufs_sub .., binary_bufs_sub .., binary_bufs_sub .., reshape_bufs_sub .., nullary_bufs_sub .., binary_bufs_sub .., nullary_bufs_sub ..,
    nullary_bufs_sub .., nullary_bufs_sub .., quaternary_bufs_sub .., quaternary_bufs_sub .., nullary_bufs_sub .., unary_bufs_sub .., unary_bufs_sub .., binary_bufs_sub ..,
    nullary_bufs_sub .., unary_bufs_sub .., unary_bufs_sub .., ternary_bufs_sub .., nullary_bufs_sub .., binary_bufs_sub .., binary_bufs_sub .., reshape_bufs_sub ..,
    reshape_bufs_sub .., reshape_bufs_sub ..⟩

set_option maxRecDepth 8192 in
set_option maxHeartbeats 2000000 in
/-- The first operations leave the logits in their buffer. -/
theorem read_logits (V : Valuation τ sig (Elt F)) : after opsL V (Proc.devRef .tc main_v24)
    = logits (V (Proc.devRef .tc main_arg0)) (V (Proc.devRef .tc main_arg1)) (V (Proc.devRef .tc main_arg2)) := by
  unfold opsL
  after_results_simp
  unfold logits xLo xHi wLo wHi sc
  rfl

section Rest

variable (mx : (⟨S256x1x16128, .f32⟩ : BufTy).Contents (Elt F) → (⟨S_, .f32⟩ : BufTy).Contents (Elt F) → (⟨S256x1, .f32⟩ : BufTy).Contents (Elt F))
  (am : (⟨S256x1x16128, .f32⟩ : BufTy).Contents (Elt F) → (⟨S256x1x16128, .i32⟩ : BufTy).Contents (Elt F) → (⟨S_, .f32⟩ : BufTy).Contents (Elt F) → (⟨S_, .i32⟩ : BufTy).Contents (Elt F) → (⟨S256x1, .f32⟩ : BufTy).Contents (Elt F))
  (ax : (⟨S256x1x16128, .f32⟩ : BufTy).Contents (Elt F) → (⟨S256x1x16128, .i32⟩ : BufTy).Contents (Elt F) → (⟨S_, .f32⟩ : BufTy).Contents (Elt F) → (⟨S_, .i32⟩ : BufTy).Contents (Elt F) → (⟨S256x1, .i32⟩ : BufTy).Contents (Elt F))

set_option maxRecDepth 8192 in
set_option maxHeartbeats 2000000 in
/-- The later operations' first result. -/
theorem read_tok (V : Valuation τ sig (Elt F)) : after (opsG mx am ax) V (Proc.devRef .tc main_v34)
    = shapeCast S1x256 (ax (V (Proc.devRef .tc main_v24)) (iotaInDim S256x1x16128 32 2) (constant S_ .f32 0xFF800000#32) (constantI S_ 32 0#32)) shapeCasts_S256x1_S1x256 := by
  unfold opsG
  after_results_simp
  rfl

set_option maxRecDepth 8192 in
set_option maxHeartbeats 2000000 in
/-- The later operations' second result. -/
theorem read_margin (V : Valuation τ sig (Elt F)) : after (opsG mx am ax) V (Proc.devRef .tc main_v35)
    = shapeCast S1x256 (subf (mx (V (Proc.devRef .tc main_v24)) (constant S_ .f32 0xFF800000#32))
        (mx (select (cmpi .eq (iotaInDim S256x1x16128 32 2) (broadcastInDim S256x1x16128 ![0, 1, 2] bcast_S256x1x1_S256x1x16128_0_1_2
            (broadcastInDim S256x1x1 ![0, 1] bcast_S256x1_S256x1x1_0_1
              (ax (V (Proc.devRef .tc main_v24)) (iotaInDim S256x1x16128 32 2) (constant S_ .f32 0xFF800000#32) (constantI S_ 32 0#32)))))
          (broadcastInDim S256x1x16128 ![] bcast_S_S256x1x16128 (constant S_ .f32 0xFF800000#32)) (V (Proc.devRef .tc main_v24)))
          (constant S_ .f32 0xFF800000#32))) shapeCasts_S256x1_S1x256 := by
  unfold opsG
  after_results_simp
  rfl

set_option maxRecDepth 8192 in
set_option maxHeartbeats 2000000 in
/-- The later operations' third result. -/
theorem read_top (V : Valuation τ sig (Elt F)) : after (opsG mx am ax) V (Proc.devRef .tc main_v36)
    = shapeCast S1x256 (mx (V (Proc.devRef .tc main_v24)) (constant S_ .f32 0xFF800000#32)) shapeCasts_S256x1_S1x256 := by
  unfold opsG
  after_results_simp
  rfl

set_option maxRecDepth 8192 in
/-- The later operations leave the arguments. -/
theorem kept_R (V : Valuation τ sig (Elt F)) : after (opsG mx am ax) V (Proc.devRef .tc main_arg0) = V (Proc.devRef .tc main_arg0)
    ∧ after (opsG mx am ax) V (Proc.devRef .tc main_arg1) = V (Proc.devRef .tc main_arg1)
    ∧ after (opsG mx am ax) V (Proc.devRef .tc main_arg2) = V (Proc.devRef .tc main_arg2) := by
  unfold opsG
  refine ⟨?_, ?_, ?_⟩ <;> after_results_simp

end Rest

set_option maxRecDepth 8192 in
/-- The first operations leave the arguments. -/
theorem kept_L (V : Valuation τ sig (Elt F)) : after opsL V (Proc.devRef .tc main_arg0) = V (Proc.devRef .tc main_arg0)
    ∧ after opsL V (Proc.devRef .tc main_arg1) = V (Proc.devRef .tc main_arg1)
    ∧ after opsL V (Proc.devRef .tc main_arg2) = V (Proc.devRef .tc main_arg2) := by
  unfold opsL
  refine ⟨?_, ?_, ?_⟩ <;> after_results_simp

/-- One line of operations after another. -/
theorem after_append (l l' : List (HloOp τ sig (Elt F))) (V : Valuation τ sig (Elt F)) : after (l ++ l') V = after l' (after l V) := by
  induction l generalizing V with
  | nil => rfl
  | cons op l ih => exact ih _

variable (m : (ℓ : Loc nD τ sig) → Buf (Elt F) ℓ) (ρ : Dev nD → PrngReg)

/-- The reference's logits. -/
abbrev L (c : Dev nD) : (⟨S256x1x16128, .f32⟩ : BufTy).Contents (Elt F) :=
  logits (m ((c : Thread nD τ).loc main_arg0)) (m ((c : Thread nD τ).loc main_arg1)) (m ((c : Thread nD τ).loc main_arg2))

/-- What the program leaves: its three results at the values of its logits, and its arguments as they were. -/
theorem run : θ_run (defs (F := F)) (onTc (τ := τ) (main (F := F))) ⟨m, fun _ => 0, ρ⟩ fun r => ∀ c : Dev nD,
    r.2.mem ((c : Thread nD τ).loc main_v34) = shapeCast S1x256 (tok (L m c)) shapeCasts_S256x1_S1x256
    ∧ r.2.mem ((c : Thread nD τ).loc main_v35) = shapeCast S1x256 (subf (top (L m c)) (top (rest (L m c)))) shapeCasts_S256x1_S1x256
    ∧ r.2.mem ((c : Thread nD τ).loc main_v36) = shapeCast S1x256 (top (L m c)) shapeCasts_S256x1_S1x256
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => by
    have hL := read_logits (F := F) (fun b => m (c, b))
    have hk := kept_L (F := F) (fun b => m (c, b))
    refine ⟨(h c main_v34).trans ?_, (h c main_v35).trans ?_, (h c main_v36).trans ?_, (h c main_arg0).trans ?_, (h c main_arg1).trans ?_, (h c main_arg2).trans ?_⟩
    · rw [after_append, read_tok, hL]; rfl
    · rw [after_append, read_margin, hL]; rfl
    · rw [after_append, read_top, hL]; rfl
    · rw [after_append, (kept_R _ _ _ _).1]; exact hk.1
    · rw [after_append, (kept_R _ _ _ _).2.1]; exact hk.2.1
    · rw [after_append, (kept_R _ _ _ _).2.2]; exact hk.2.2)
    (run_seq scopedRefs_eq scopedSems_eq defs main (fun _ => ops) main_eq (fun _ => ops_sub) m ρ)

end Cert.Proof.Ref

end
-- ==== Proof.KVocab.lean ====
module

public import proofs.«01_k».proof.Proof.Gen.KernelIdeal.Frame

@[expose] public section

set_option maxRecDepth 16384

/-! # The kernel's grid point, in few words

The body of one grid point is written out instruction by instruction: 28 chunks of weights are dequantised, one matrix
product gives the point's 768 rows of logits, and 96 slices of eight rows each update the carried best value, second
best value and slice number. This module names those things once, with the chunk number and the slice number as
arguments, for any float type. -/

noncomputable section

namespace Cert.KernelIdeal.Vocab

open Idealize.ShloMosaic Idealize.ShloMosaic.TcCoe Idealize.ShloMosaic.Tactic
open Cert.KernelIdeal.Gen

variable {F : FTy → Type} [FloatOps F]

/-- The low four bits of each byte, as floats (the bytes are masked four to a word). -/
def loNib (w : Vec F S768x128 .i8) : FVec F S768x128 .bf16 :=
  sitofp .bf16 (bitcast S768x128 8 (andi (bitcast S192x128 32 w bitcasts_S768x128_w8_S192x128_w32) (broadcast S192x128 252645135#32)) bitcasts_S192x128_w32_S768x128_w8)

/-- The high four bits of each byte, as floats (the words are shifted, then masked). -/
def hiNib (w : Vec F S768x128 .i8) : FVec F S768x128 .bf16 :=
  sitofp .bf16 (bitcast S768x128 8 (andi (shrui (bitcast S192x128 32 w bitcasts_S768x128_w8_S192x128_w32) (broadcast S192x128 4#32)) (broadcast S192x128 252645135#32)) bitcasts_S192x128_w32_S768x128_w8)

/-- The lane number. -/
def lane : IVec S768x128 32 := iota .tc S768x128 32 [1] iota_S768x128_d1_w32

/-- The sign of the divisor 16, as the body computes it. -/
def sgn16 : BitVec 32 := Scalar.subi (Scalar.extui (Scalar.cmpi .sgt 16#32 0#32)) (Scalar.extui (Scalar.cmpi .slt 16#32 0#32))

/-- The lane number divided by 16, rounding down, as the body computes it. -/
def group : IVec S768x128 32 :=
  select (andi (cmpi .ne (subi (extui 32 (cmpi .sgt lane (broadcast S768x128 0#32)) natLt_1_32) (extui 32 (cmpi .slt lane (broadcast S768x128 0#32)) natLt_1_32)) (broadcast S768x128 sgn16))
      (cmpi .ne (remsi lane (broadcast S768x128 16#32)) (broadcast S768x128 0#32)))
    (subi (divsi lane (broadcast S768x128 16#32)) (broadcast S768x128 1#32)) (divsi lane (broadcast S768x128 16#32))

/-- The lane each scale is gathered from: the group plus the chunk's offset, a negative one counted from the end. -/
def gidx (o : BitVec 32) : IVec S768x128 32 :=
  shapeCast S768x128 (shapeCast S768x128x1
    (select (cmpi .slt (addi group (broadcast S768x128 o)) (broadcast S768x128 0#32))
      (addi (addi group (broadcast S768x128 o)) (broadcast S768x128 128#32)) (addi group (broadcast S768x128 o)))
    shapeCasts_S768x128_S768x128x1) shapeCasts_S768x128x1_S768x128

/-- The first 128 columns of scales. -/
def sc0 (s : Vec F S768x224 .bf16) : FVec F S768x128 .f32 :=
  extf .f32 (extractStridedSlice S768x128 ![0, 0] s slices_S768x224_o0_0_S768x128) bitsLt_bf16_f32

/-- The remaining 96 columns of scales, then zeros. -/
def sc1 (s : Vec F S768x224 .bf16) : FVec F S768x128 .f32 :=
  extf .f32 (concatenate S768x128 1 [⟨S768x96, extractStridedSlice S768x96 ![0, 128] s slices_S768x224_o0_128_S768x96⟩,
    ⟨S768x32, broadcast S768x32 (Scalar.ofBits (F := F) .bf16 0x0000#16)⟩] concatenates_S768x96_S768x32_S768x128_d1) bitsLt_bf16_f32

/-- The scales of one chunk. -/
def scales (src : FVec F S768x128 .f32) (o : BitVec 32) : FVec F S768x128 .bf16 :=
  truncf .bf16 (dynamicGather 1 src (gidx o)) bitsLt_bf16_f32

/-- One half of a chunk: nibbles less eight, scaled. -/
def half (nib sc : FVec F S768x128 .bf16) : FVec F S768x128 .bf16 :=
  mulf (subf nib (broadcast S768x128 (Scalar.ofBits (F := F) .bf16 0x4100#16))) sc

/-- One chunk of dequantised weights: low nibbles' columns, then high nibbles'. -/
def chunk (src : FVec F S768x128 .f32) (o : BitVec 32) (w : Vec F S768x128 .i8) : FVec F S768x256 .bf16 :=
  concatenate S768x256 1 [⟨S768x128, half (loNib w) (scales src o)⟩, ⟨S768x128, half (hiNib w) (scales src o)⟩]
    concatenates_S768x128_S768x128_S768x256_d1

/-- Chunk number `n`, from its bytes and the block's scales. -/
def chunkAt (s : Vec F S768x224 .bf16) (W : Fin 28 → Vec F S768x128 .i8) (n : Fin 28) : FVec F S768x256 .bf16 :=
  chunk (if n.val < 16 then sc0 s else sc1 s) (BitVec.ofNat 32 (8 * (n.val % 16))) (W n)

/-- The point's logits: the 28 chunks side by side, times the activations. -/
def LG (x : Vec F S256x7168 .bf16) (W : Fin 28 → Vec F S768x128 .i8) (s : Vec F S768x224 .bf16) : FVec F S768x256 .f32 :=
  matmul dot_S768x7168_S256x7168_S768x256_1_1_0_0_n_n none
    (concatenate S768x7168 1 (List.ofFn fun n : Fin 28 => (⟨S768x256, chunkAt s W n⟩ : (s : Shape) × (s.Idx → F .bf16)))
      concatenates_S768x256_S768x256_S768x256_S768x256_S768x256_S768x256_S768x256_S768x256_S768x256_S768x256_S768x256_S768x256_S768x256_S768x256_S768x256_S768x256_S768x256_S768x256_S768x256_S768x256_S768x256_S768x256_S768x256_S768x256_S768x256_S768x256_S768x256_S768x256_S768x7168_d1)
    (shapeCast S256x7168 x shapeCasts_S256x7168_S256x7168) (constant S768x256 .f32 0x00000000#32)

/-- Eight rows from row `8 r` on lie within the 768. -/
theorem slices_row (r : ℕ) (h : r < 96) : S768x256.Slices ![8 * r, 0] S8x256 :=
  ⟨rfl, fun a => by fin_cases a <;> simp [Shape.size, S768x256, S8x256] <;> omega⟩

/-- Slice `r` of the logits: eight rows. -/
def row (L : FVec F S768x256 .f32) (r : ℕ) (h : r < 96) : FVec F S8x256 .f32 :=
  extractStridedSlice S8x256 ![8 * r, 0] L (slices_row r h)

/-- The best value after `n` slices. -/
def m1 (L : FVec F S768x256 .f32) (a : FVec F S8x256 .f32) : (n : ℕ) → n ≤ 96 → FVec F S8x256 .f32
  | 0, _ => a
  | n + 1, h => maximumf (m1 L a n (Nat.le_of_succ_le h)) (row L n h)

/-- The second best value after `n` slices. -/
def m2 (L : FVec F S768x256 .f32) (a b : FVec F S8x256 .f32) : (n : ℕ) → n ≤ 96 → FVec F S8x256 .f32
  | 0, _ => b
  | n + 1, h => maximumf (m2 L a b n (Nat.le_of_succ_le h)) (minimumf (row L n h) (m1 L a n (Nat.le_of_succ_le h)))

/-- The number of the slice the best value came from, after `n` slices of point `i`. -/
def ids (i : BitVec 32) (L : FVec F S768x256 .f32) (a : FVec F S8x256 .f32) (d : IVec S8x256 32) : (n : ℕ) → n ≤ 96 → IVec S8x256 32
  | 0, _ => d
  | n + 1, h => select (cmpf .ogt (row L n h) (m1 L a n (Nat.le_of_succ_le h)))
      (broadcast S8x256 (Scalar.addi (Scalar.muli i 96#32) (BitVec.ofNat 32 n))) (ids i L a d n (Nat.le_of_succ_le h))

/-- Chunk `n`'s bytes: 128 columns of the block from column `128 n` on. -/
theorem inb_cols (n : Fin 28) : ∀ a, (![0, 128 * n.val] : Fin 2 → ℕ) a + S768x128.size a ≤ S768x3584.size a := fun a => by
  have := n.isLt
  fin_cases a <;> simp [Shape.size, S768x128, S768x3584] <;> omega

end Cert.KernelIdeal.Vocab
-- ==== Proof.KPoint.lean ====
module

public import proofs.«01_k».proof.Proof.KVocab
public import proofs.«01_k».proof.Proof.Gen.KernelIdeal.Value

@[expose] public section

set_option maxRecDepth 16384

/-! # What one grid point leaves behind

The generated record of a point says what each scratch and each output holds as the instructions wrote it. Here the
same contents are stated in the words of KVocab: the scratch holds the fold of the point's 96 slices of logits, from the
initial values at the first point and from the carried ones later; the last point's outputs are the final combination of
the eight rows. -/

noncomputable section

namespace Cert.KernelIdeal.Point

open Idealize.ShloMosaic Idealize.ShloMosaic.TcCoe Idealize.ShloMosaic.Tactic
open Cert.KernelIdeal.Gen Cert.KernelIdeal.Vocab

variable {F : FTy → Type} [FloatOps F]

/-- The offsets of a whole-scratch access are zero. -/
theorem hz : (![0, 0] : Fin 2 → Nat) = fun _ => 0 := funext fun a => by fin_cases a <;> rfl

/-- Chunk `n`'s bytes of a block. -/
def cols (w : Vec F S768x3584 .i8) (n : Fin 28) : Vec F S768x128 .i8 :=
  View.ld w (Rect.unit (s := S768x3584) ![0, 128 * n.val] S768x128.size (inb_cols n))

variable (c : Dev nD) (i : grid0.Coords)
  (arg1 : Memref sig .tc .vmem S256x7168 .bf16) (harg1 : arg1.IsWhole) (arg2 : Memref sig .tc .vmem S768x3584 .i8) (harg2 : arg2.IsWhole)
  (arg3 : Memref sig .tc .vmem S768x224 .bf16) (harg3 : arg3.IsWhole) (arg4 : Memref sig .tc .vmem S1x256 .i32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S8x256 .f32) (harg7 : arg7.IsWhole) (arg8 : Memref sig .tc .vmem S8x256 .f32) (harg8 : arg8.IsWhole)
  (arg9 : Memref sig .tc .vmem S8x256 .i32) (harg9 : arg9.IsWhole)
  (x0 : Vec F S256x7168 .bf16) (x1 : Vec F S768x3584 .i8) (x2 : Vec F S768x224 .bf16)
  (xs0 xs1 : Vec F S8x256 .f32) (xs2 : Vec F S8x256 .i32)

/-- The point's logits, over the operands as the body loads them. -/
def lgRead : FVec F S768x256 .f32 :=
  LG (arg1.view.readAt (Elt F) (Rect.unit (s := S256x7168) ![0, 0] S256x7168.size inb_S256x7168_S256x7168_0_0).toLoadRect (harg1.unread x0))
    (fun n => arg2.view.readAt (Elt F) (Rect.unit (s := S768x3584) ![0, 128 * n.val] S768x128.size (inb_cols n)).toLoadRect (harg2.unread x1))
    (arg3.view.readAt (Elt F) (Rect.unit (s := S768x224) ![0, 0] S768x224.size inb_S768x224_S768x224_0_0).toLoadRect (harg3.unread x2))

/-- They are the logits of the operands. -/
theorem lgRead_eq : lgRead arg1 harg1 arg2 harg2 arg3 harg3 x0 x1 x2 = LG x0 (cols x1) x2 := by
  unfold lgRead cols
  simp only [View.readAt_eq_ld, harg1.read_unread, harg2.read_unread, harg3.read_unread, View.ld_unit_zero (S := S256x7168) hz,
    View.ld_unit_zero (S := S768x224) hz]

/-- A scratch of floats, as the body loads it. -/
def rdF (a : Memref sig .tc .vmem S8x256 .f32) (h : a.IsWhole) (x : Vec F S8x256 .f32) : FVec F S8x256 .f32 :=
  a.view.readAt (Elt F) (Rect.unit (s := S8x256) ![0, 0] S8x256.size inb_S8x256_S8x256_0_0).toLoadRect (h.unread x)

/-- A whole-scratch load of floats reads what is held. -/
theorem rdF_eq (a : Memref sig .tc .vmem S8x256 .f32) (h : a.IsWhole) (x : Vec F S8x256 .f32) : rdF a h x = x := by
  simp only [rdF, View.readAt_eq_ld, h.read_unread, View.ld_unit_zero (S := S8x256) hz]

/-- A scratch of integers, as the body loads it. -/
def rdI (a : Memref sig .tc .vmem S8x256 .i32) (h : a.IsWhole) (x : Vec F S8x256 .i32) : IVec S8x256 32 :=
  a.view.readAt (Elt F) (Rect.unit (s := S8x256) ![0, 0] S8x256.size inb_S8x256_S8x256_0_0).toLoadRect (h.unread x)

/-- A whole-scratch load of integers reads what is held. -/
theorem rdI_eq (a : Memref sig .tc .vmem S8x256 .i32) (h : a.IsWhole) (x : Vec F S8x256 .i32) : rdI a h x = x := by
  simp only [rdI, View.readAt_eq_ld, h.read_unread, View.ld_unit_zero (S := S8x256) hz]

/-- A scratch of floats, loaded back after a store covered it. -/
def rcF (a : Memref sig .tc .vmem S8x256 .f32) (w : FVec F S8x256 .f32) : FVec F S8x256 .f32 :=
  a.view.readCov [(⟨Rect.unit (s := S8x256) ![0, 0] S8x256.size inb_S8x256_S8x256_0_0, w⟩ : View.Piece (Elt F) S8x256 .f32)]
    (Rect.unit (s := S8x256) ![0, 0] S8x256.size inb_S8x256_S8x256_0_0).toLoadRect

/-- A load of floats after a whole-scratch store reads what was stored. -/
theorem rcF_eq (a : Memref sig .tc .vmem S8x256 .f32) (w : FVec F S8x256 .f32) : rcF a w = w :=
  View.readCov_unit_zero (S := S8x256) _ hz _ _

/-- A scratch of integers, loaded back after a store covered it. -/
def rcI (a : Memref sig .tc .vmem S8x256 .i32) (w : IVec S8x256 32) : IVec S8x256 32 :=
  a.view.readCov [(⟨Rect.unit (s := S8x256) ![0, 0] S8x256.size inb_S8x256_S8x256_0_0, w⟩ : View.Piece (Elt F) S8x256 .i32)]
    (Rect.unit (s := S8x256) ![0, 0] S8x256.size inb_S8x256_S8x256_0_0).toLoadRect

/-- A load of integers after a whole-scratch store reads what was stored. -/
theorem rcI_eq (a : Memref sig .tc .vmem S8x256 .i32) (w : IVec S8x256 32) : rcI (F := F) a w = w :=
  View.readCov_unit_zero (S := S8x256) _ hz _ _

/-- The same-shape cast of a stored value is that value. -/
theorem sc_eq {α : Type} (v : S8x256.Idx → α) : shapeCast S8x256 v shapeCasts_S8x256_S8x256 = v := by
  rw [shapeCast_self]

/-- First point, best value: the fold from the initial value. -/
theorem sA_0 (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x0 x1 x2
      = m1 (LG x0 (cols x1) x2) k0_pay5 96 (Nat.le_refl _) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2)]
  unfold kernelRun0_A
  dsimp only
  rw [View.canon_cons_unit_zero (S := S8x256) hz]
  refine Eq.trans (b := shapeCast S8x256 (m1 (lgRead arg1 harg1 arg2 harg2 arg3 harg3 x0 x1 x2) (rcF arg7 k0_pay5) 96 (Nat.le_refl _)) shapeCasts_S8x256_S8x256) rfl ?_
  rw [sc_eq, lgRead_eq, rcF_eq]

/-- First point, second best value. -/
theorem sA_1 (hc0 : cond0_0 i) (hc1 : ¬cond0_1 i) :
    sout0_A_1 c i arg1 harg1 arg2 harg2 arg3 harg3 arg4 harg4 arg5 harg5 arg6 harg6 arg7 harg7 arg8 harg8 arg9 harg9 hc0 hc1 x0 x1 x2
      = m2 (LG x0 (cols x1) x2) k0_pay5 k0_pay6 96 (Nat.le_refl _) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2)]
  unfold kernelRun0_A
  dsimp only
  rw [View.canon_cons_unit_zero (S := S8x256) hz]
  refine Eq.trans (b := shapeCast S8x256 (m2 (lgRead arg1 harg1 arg2 harg2 arg3 harg3 x0 x1 x2) (rcF arg7 k0_pay5) (rcF arg8 k0_pay6) 96 (Nat.le_refl _)) shapeCasts_S8x256_S8x256) rfl ?_
  rw [sc_eq, lgRead_eq, rcF_eq, rcF_eq]

/-- First point, slice number. -/
theorem sA_2 (hc0 : cond0_0 i) (hc1 : ¬cond0_1 i) :
    sout0_A_2 c i arg1 harg1 arg2 harg2 arg3 harg3 arg4 harg4 arg5 harg5 arg6 harg6 arg7 harg7 arg8 harg8 arg9 harg9 hc0 hc1 x0 x1 x2
      = ids (BitVec.ofNat 32 (i 0).val) (LG x0 (cols x1) x2) k0_pay5 k0_pay7 96 (Nat.le_refl _) := by
  unfold sout0_A_2
  rw [View.read_writes_eq_canon _ _ _ (scover0_A_2 c i arg1 harg1 arg2 harg2 arg3 harg3 arg4 harg4 arg5 harg5 arg6 harg6 arg7 harg7 arg8 harg8 arg9 harg9 hc0 hc1 x0 x1 x2)]
  unfold kernelRun0_A
  dsimp only
  rw [View.canon_cons_unit_zero (S := S8x256) hz]
  refine Eq.trans (b := shapeCast S8x256 (ids (BitVec.ofNat 32 (i 0).val) (lgRead arg1 harg1 arg2 harg2 arg3 harg3 x0 x1 x2) (rcF arg7 k0_pay5) (rcI (F := F) arg9 k0_pay7) 96 (Nat.le_refl _)) shapeCasts_S8x256_S8x256) rfl ?_
  rw [sc_eq, lgRead_eq, rcF_eq, rcI_eq]

/-- Middle points, best value: the fold from the carried value. -/
theorem sB_0 (hc0 : ¬cond0_0 i) (hc1 : ¬cond0_1 i) :
    sout0_B_0 c i arg1 harg1 arg2 harg2 arg3 harg3 arg4 harg4 arg5 harg5 arg6 harg6 arg7 harg7 arg8 harg8 arg9 harg9 hc0 hc1 x0 x1 x2 xs0 xs1 xs2
      = m1 (LG x0 (cols x1) x2) xs0 96 (Nat.le_refl _) := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 xs0 xs1 xs2)]
  unfold kernelRun0_B
  dsimp only
  rw [View.canon_unit_zero hz]
  refine Eq.trans (b := shapeCast S8x256 (m1 (lgRead arg1 harg1 arg2 harg2 arg3 harg3 x0 x1 x2) (rdF arg7 harg7 xs0) 96 (Nat.le_refl _)) shapeCasts_S8x256_S8x256) rfl ?_
  rw [sc_eq, lgRead_eq, rdF_eq]

/-- Middle points, second best value. -/
theorem sB_1 (hc0 : ¬cond0_0 i) (hc1 : ¬cond0_1 i) :
    sout0_B_1 c i arg1 harg1 arg2 harg2 arg3 harg3 arg4 harg4 arg5 harg5 arg6 harg6 arg7 harg7 arg8 harg8 arg9 harg9 hc0 hc1 x0 x1 x2 xs0 xs1 xs2
      = m2 (LG x0 (cols x1) x2) xs0 xs1 96 (Nat.le_refl _) := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 xs0 xs1 xs2)]
  unfold kernelRun0_B
  dsimp only
  rw [View.canon_unit_zero hz]
  refine Eq.trans (b := shapeCast S8x256 (m2 (lgRead arg1 harg1 arg2 harg2 arg3 harg3 x0 x1 x2) (rdF arg7 harg7 xs0) (rdF arg8 harg8 xs1) 96 (Nat.le_refl _)) shapeCasts_S8x256_S8x256) rfl ?_
  rw [sc_eq, lgRead_eq, rdF_eq, rdF_eq]

/-- Middle points, slice number. -/
theorem sB_2 (hc0 : ¬cond0_0 i) (hc1 : ¬cond0_1 i) :
    sout0_B_2 c i arg1 harg1 arg2 harg2 arg3 harg3 arg4 harg4 arg5 harg5 arg6 harg6 arg7 harg7 arg8 harg8 arg9 harg9 hc0 hc1 x0 x1 x2 xs0 xs1 xs2
      = ids (BitVec.ofNat 32 (i 0).val) (LG x0 (cols x1) x2) xs0 xs2 96 (Nat.le_refl _) := by
  unfold sout0_B_2
  rw [View.read_writes_eq_canon _ _ _ (scover0_B_2 c i arg1 harg1 arg2 harg2 arg3 harg3 arg4 harg4 arg5 harg5 arg6 harg6 arg7 harg7 arg8 harg8 arg9 harg9 hc0 hc1 x0 x1 x2 xs0 xs1 xs2)]
  unfold kernelRun0_B
  dsimp only
  rw [View.canon_unit_zero hz]
  refine Eq.trans (b := shapeCast S8x256 (ids (BitVec.ofNat 32 (i 0).val) (lgRead arg1 harg1 arg2 harg2 arg3 harg3 x0 x1 x2) (rdF arg7 harg7 xs0) (rdI arg9 harg9 xs2) 96 (Nat.le_refl _)) shapeCasts_S8x256_S8x256) rfl ?_
  rw [sc_eq, lgRead_eq, rdF_eq, rdI_eq]

/-- Last point, the token: the combination of the eight rows of the fold from the carried values. -/
theorem oC_3 (hc0 : ¬cond0_0 i) (hc1 : cond0_1 i) :
    out0_C_3 c i arg1 harg1 arg2 harg2 arg3 harg3 arg4 harg4 arg5 harg5 arg6 harg6 arg7 harg7 arg8 harg8 arg9 harg9 hc0 hc1 x0 x1 x2 xs0 xs1 xs2
      = k0_pay3 (m1 (LG x0 (cols x1) x2) xs0 96 (Nat.le_refl _))
          (ids (BitVec.ofNat 32 (i 0).val) (LG x0 (cols x1) x2) xs0 xs2 96 (Nat.le_refl _)) := by
  unfold out0_C_3
  rw [View.read_writes_eq_canon _ _ _ (cover0_C_3 c i arg1 harg1 arg2 harg2 arg3 harg3 arg4 harg4 arg5 harg5 arg6 harg6 arg7 harg7 arg8 harg8 arg9 harg9 hc0 hc1 x0 x1 x2 xs0 xs1 xs2)]
  unfold kernelRun0_C
  dsimp only
  rw [View.canon_unit_zero hz]
  refine Eq.trans (b := k0_pay3
    (rcF arg7 (shapeCast S8x256 (m1 (lgRead arg1 harg1 arg2 harg2 arg3 harg3 x0 x1 x2) (rdF arg7 harg7 xs0) 96 (Nat.le_refl _)) shapeCasts_S8x256_S8x256))
    (rcI (F := F) arg9 (shapeCast S8x256 (ids (BitVec.ofNat 32 (i 0).val) (lgRead arg1 harg1 arg2 harg2 arg3 harg3 x0 x1 x2) (rdF arg7 harg7 xs0) (rdI arg9 harg9 xs2) 96 (Nat.le_refl _)) shapeCasts_S8x256_S8x256))) rfl ?_
  simp only [rcF_eq, rcI_eq, sc_eq, lgRead_eq, rdF_eq, rdI_eq]

/-- Last point, the margin. -/
theorem oC_4 (hc0 : ¬cond0_0 i) (hc1 : cond0_1 i) :
    out0_C_4 c i arg1 harg1 arg2 harg2 arg3 harg3 arg4 harg4 arg5 harg5 arg6 harg6 arg7 harg7 arg8 harg8 arg9 harg9 hc0 hc1 x0 x1 x2 xs0 xs1 xs2
      = k0_pay4 (m1 (LG x0 (cols x1) x2) xs0 96 (Nat.le_refl _)) (m2 (LG x0 (cols x1) x2) xs0 xs1 96 (Nat.le_refl _))
          (ids (BitVec.ofNat 32 (i 0).val) (LG x0 (cols x1) x2) xs0 xs2 96 (Nat.le_refl _)) := by
  unfold out0_C_4
  rw [View.read_writes_eq_canon _ _ _ (cover0_C_4 c i arg1 harg1 arg2 harg2 arg3 harg3 arg4 harg4 arg5 harg5 arg6 harg6 arg7 harg7 arg8 harg8 arg9 harg9 hc0 hc1 x0 x1 x2 xs0 xs1 xs2)]
  unfold kernelRun0_C
  dsimp only
  rw [View.canon_unit_zero hz]
  refine Eq.trans (b := k0_pay4
    (rcF arg7 (shapeCast S8x256 (m1 (lgRead arg1 harg1 arg2 harg2 arg3 harg3 x0 x1 x2) (rdF arg7 harg7 xs0) 96 (Nat.le_refl _)) shapeCasts_S8x256_S8x256))
    (rcF arg8 (shapeCast S8x256 (m2 (lgRead arg1 harg1 arg2 harg2 arg3 harg3 x0 x1 x2) (rdF arg7 harg7 xs0) (rdF arg8 harg8 xs1) 96 (Nat.le_refl _)) shapeCasts_S8x256_S8x256))
    (rcI (F := F) arg9 (shapeCast S8x256 (ids (BitVec.ofNat 32 (i 0).val) (lgRead arg1 harg1 arg2 harg2 arg3 harg3 x0 x1 x2) (rdF arg7 harg7 xs0) (rdI arg9 harg9 xs2) 96 (Nat.le_refl _)) shapeCasts_S8x256_S8x256))) rfl ?_
  simp only [rcF_eq, rcI_eq, sc_eq, lgRead_eq, rdF_eq, rdI_eq]

/-- Last point, the best value. -/
theorem oC_5 (hc0 : ¬cond0_0 i) (hc1 : cond0_1 i) :
    out0_C_5 c i arg1 harg1 arg2 harg2 arg3 harg3 arg4 harg4 arg5 harg5 arg6 harg6 arg7 harg7 arg8 harg8 arg9 harg9 hc0 hc1 x0 x1 x2 xs0 xs1 xs2
      = k0_pay2 (m1 (LG x0 (cols x1) x2) xs0 96 (Nat.le_refl _)) := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 xs0 xs1 xs2)]
  unfold kernelRun0_C
  dsimp only
  rw [View.canon_unit_zero hz]
  refine Eq.trans (b := k0_pay2
    (rcF arg7 (shapeCast S8x256 (m1 (lgRead arg1 harg1 arg2 harg2 arg3 harg3 x0 x1 x2) (rdF arg7 harg7 xs0) 96 (Nat.le_refl _)) shapeCasts_S8x256_S8x256))) rfl ?_
  simp only [rcF_eq, sc_eq, lgRead_eq, rdF_eq]

end Cert.KernelIdeal.Point
-- ==== Proof.Nibble.lean ====
module

public import Idealize.ShloMosaic.Lib.Pipeline.Value
public import Idealize.ShloMosaic.Lib.BitcastFour
public import Idealize.ShloMosaic.PureOps.Ideal.Laws

@[expose] public section

set_option maxRecDepth 16384

/-! # Nibbles and scales as numbers

The number each four-bit half of a byte stands for, as the reference reads it, and the two computations the kernel makes
word by word: masking four bytes at once, and dividing a lane number by 16. -/

noncomputable section

namespace Cert.Nibble

open Idealize.ShloMosaic Idealize.ShloMosaic.ValueIdx

/-- The low half of a byte, as a number. -/
def lo (b : BitVec 8) : EReal := (((IntOp.andi (b.setWidth 32) 15#32).toInt : ℝ) : EReal)

/-- The high half of a byte, as a number. -/
def hi (b : BitVec 8) : EReal := (((IntOp.shrsi .host (b.setWidth 32) 4#32).toInt : ℝ) : EReal)

/-- The low half, masked within the byte, is the same number. -/
theorem lo_eq (b : BitVec 8) : (((b &&& 15#8).toInt : ℝ) : EReal) = lo b := by
  have h : ∀ b : BitVec 8, (b &&& 15#8).toInt = (IntOp.andi (b.setWidth 32) 15#32).toInt := by decide
  rw [lo, h]

/-- The high half, shifted within the byte, is the same number. -/
theorem hi_eq (b : BitVec 8) : (((b >>> 4).toInt : ℝ) : EReal) = hi b := by
  have h : ∀ b : BitVec 8, (b >>> 4).toInt = (IntOp.shrsi .host (b.setWidth 32) 4#32).toInt := by decide
  rw [hi, h]

/-- A bit of the mask that keeps the low half of each of four bytes. -/
theorem mask_bit (p : ℕ) (hp : p < 32) : (252645135#32 : BitVec 32).getLsbD p = decide (p % 8 < 4) := by
  have h : ∀ p : Fin 32, (252645135#32 : BitVec 32).getLsbD p.val = decide (p.val % 8 < 4) := by decide
  exact h ⟨p, hp⟩

/-- Masking four bytes at once keeps each byte's low half. -/
theorem bytes_and {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (v : Fin R) (l : Fin n) (hv : v.val / 4 < r) :
    bitcast ⟨2, ![R, n]⟩ 8 (andi (bitcast ⟨2, ![r, n]⟩ 32 x h) (broadcast ⟨2, ![r, n]⟩ 252645135#32)) h' (ix2 v l)
      = x (ix2 v l) &&& 15#8 := by
  apply BitVec.eq_of_getLsbD_eq
  intro q hq
  rw [bitcast_getLsbD _ h' _ q hq (by decide)]
  have hrow : (⟨2, ![R, n]⟩ : Shape).row (ix2 v l) = v.val := rfl
  have hsrc : h'.srcIdx (ix2 v l) (((⟨2, ![R, n]⟩ : Shape).row (ix2 v l) * 8 + q) / 32)
      (fun a ha => (Nat.div_lt_iff_lt_mul (by decide)).2 (h'.pos_lt _ q hq a ha)) = ix2 ⟨v.val / 4, hv⟩ l := by
    funext c
    match c with
    | ⟨0, _⟩ => exact Fin.ext ((h'.srcIdx_row _ _ _ ⟨0, Nat.zero_lt_two⟩ rfl).trans (by rw [hrow]; show _ = v.val / 4; omega))
    | ⟨1, _⟩ => exact Fin.ext (h'.srcIdx_other _ _ _ ⟨1, Nat.one_lt_two⟩ (by show ¬ 1 + 2 = 2; omega))
  rw [hsrc, hrow]
  show (IntOp.andi (bitcast ⟨2, ![r, n]⟩ 32 x h (ix2 ⟨v.val / 4, hv⟩ l)) 252645135#32).getLsbD _ = _
  have hp : (v.val * 8 + q) % 32 < 32 := Nat.mod_lt _ (by decide)
  simp only [IntOp.andi, BitVec.getLsbD_and]
  rw [mask_bit _ hp, bitcast_8_32_getLsbD_ix2 x h ⟨v.val / 4, hv⟩ l _ hp v (by show v.val = 4 * (v.val / 4) + _; omega)]
  have e1 : (v.val * 8 + q) % 32 % 8 = q := by omega
  have h15 : ∀ q : Fin 8, (15#8 : BitVec 8).getLsbD q.val = decide (q.val < 4) := by decide
  rw [e1, h15 ⟨q, hq⟩]

/-- Shifting four bytes at once by four, then masking, moves each byte's high half down. -/
theorem bytes_shr_and {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (v : Fin R) (l : Fin n) (hv : v.val / 4 < r) :
    bitcast ⟨2, ![R, n]⟩ 8 (andi (shrui (bitcast ⟨2, ![r, n]⟩ 32 x h) (broadcast ⟨2, ![r, n]⟩ 4#32)) (broadcast ⟨2, ![r, n]⟩ 252645135#32)) h' (ix2 v l)
      = x (ix2 v l) >>> 4 := by
  apply BitVec.eq_of_getLsbD_eq
  intro q hq
  rw [bitcast_getLsbD _ h' _ q hq (by decide)]
  have hrow : (⟨2, ![R, n]⟩ : Shape).row (ix2 v l) = v.val := rfl
  have hsrc : h'.srcIdx (ix2 v l) (((⟨2, ![R, n]⟩ : Shape).row (ix2 v l) * 8 + q) / 32)
      (fun a ha => (Nat.div_lt_iff_lt_mul (by decide)).2 (h'.pos_lt _ q hq a ha)) = ix2 ⟨v.val / 4, hv⟩ l := by
    funext c
    match c with
    | ⟨0, _⟩ => exact Fin.ext ((h'.srcIdx_row _ _ _ ⟨0, Nat.zero_lt_two⟩ rfl).trans (by rw [hrow]; show _ = v.val / 4; omega))
    | ⟨1, _⟩ => exact Fin.ext (h'.srcIdx_other _ _ _ ⟨1, Nat.one_lt_two⟩ (by show ¬ 1 + 2 = 2; omega))
  rw [hsrc, hrow]
  show (IntOp.andi (IntOp.shrui .vector (bitcast ⟨2, ![r, n]⟩ 32 x h (ix2 ⟨v.val / 4, hv⟩ l)) 4#32) 252645135#32).getLsbD _ = _
  have hsh : ∀ w : BitVec 32, IntOp.shrui .vector w 4#32 = w >>> 4 := fun w => by
    unfold IntOp.shrui; rw [if_pos (by decide)]; rfl
  have hp : (v.val * 8 + q) % 32 < 32 := Nat.mod_lt _ (by decide)
  have e1 : (v.val * 8 + q) % 32 % 8 = q := by omega
  rw [hsh]
  simp only [IntOp.andi, BitVec.getLsbD_and, BitVec.getLsbD_ushiftRight]
  rw [mask_bit _ hp, e1]
  by_cases hq4 : q < 4
  · rw [bitcast_8_32_getLsbD_ix2 x h ⟨v.val / 4, hv⟩ l _ (by omega) v (by show v.val = 4 * (v.val / 4) + _; omega),
      decide_eq_true hq4, Bool.and_true]
    congr 1; omega
  · rw [decide_eq_false hq4, Bool.and_false, BitVec.getLsbD_of_ge _ _ (by omega)]

end Cert.Nibble
-- ==== Proof.Logit.lean ====
module

public import proofs.«01_k».proof.Proof.Nibble

@[expose] public section

/-! # The logit both programs compute

A row of packed bytes holds two four-bit weights per byte. Byte `k` of a row belongs to group `k / 16`, which has one
scale; its low half multiplies activation `32 (k / 16) + k % 16` and its high half the activation 16 further on. -/

noncomputable section

namespace Cert.Logit

open Idealize.ShloMosaic

/-- The number subtracted from each half. -/
def eight : EReal := Ideal.ofBits .bf16 0x4100#16

/-- The logit of a row of packed bytes `w` with scales `s` against the activations `x`. -/
def logit (x : Fin 7168 → EReal) (w : Fin 3584 → BitVec 8) (s : Fin 224 → EReal) : EReal :=
  (∑ k : Fin 3584, x ⟨32 * (k.val / 16) + k.val % 16, by omega⟩ * ((Nibble.lo (w k) - eight) * s ⟨k.val / 16, by omega⟩))
    + ∑ k : Fin 3584, x ⟨32 * (k.val / 16) + 16 + k.val % 16, by omega⟩ * ((Nibble.hi (w k) - eight) * s ⟨k.val / 16, by omega⟩)

/-- The columns in the kernel's order: of each 256, the first 128 meet the low halves and the last 128 the high. -/
def colEquiv : Fin 3584 ⊕ Fin 3584 ≃ Fin 7168 where
  toFun := Sum.elim (fun k => ⟨256 * (k.val / 128) + k.val % 128, by omega⟩) (fun k => ⟨256 * (k.val / 128) + 128 + k.val % 128, by omega⟩)
  invFun q := if q.val % 256 < 128 then .inl ⟨128 * (q.val / 256) + q.val % 128, by omega⟩ else .inr ⟨128 * (q.val / 256) + q.val % 128, by omega⟩
  left_inv
    | .inl k => by
      have h : (256 * (k.val / 128) + k.val % 128) % 256 < 128 := by omega
      refine (if_pos h).trans (congrArg Sum.inl (Fin.ext ?_))
      show 128 * ((256 * (k.val / 128) + k.val % 128) / 256) + (256 * (k.val / 128) + k.val % 128) % 128 = k.val
      omega
    | .inr k => by
      have h : ¬(256 * (k.val / 128) + 128 + k.val % 128) % 256 < 128 := by omega
      refine (if_neg h).trans (congrArg Sum.inr (Fin.ext ?_))
      show 128 * ((256 * (k.val / 128) + 128 + k.val % 128) / 256) + (256 * (k.val / 128) + 128 + k.val % 128) % 128 = k.val
      omega
  right_inv q := by
    by_cases h : q.val % 256 < 128
    · simp only [if_pos h, Sum.elim_inl]; exact Fin.ext (by simp only; omega)
    · simp only [if_neg h, Sum.elim_inr]; exact Fin.ext (by simp only; omega)

/-- A sum over the kernel's columns is the sum over the low ones plus the sum over the high ones. -/
theorem sum_cols (f : Fin 7168 → EReal) : ∑ q, f q
    = (∑ k : Fin 3584, f ⟨256 * (k.val / 128) + k.val % 128, by omega⟩) + ∑ k : Fin 3584, f ⟨256 * (k.val / 128) + 128 + k.val % 128, by omega⟩ := by
  rw [← Equiv.sum_comp colEquiv, Fintype.sum_sum_type]
  exact congrArg₂ (· + ·) (Finset.sum_congr rfl fun k _ => congrArg f (Fin.ext rfl)) (Finset.sum_congr rfl fun k _ => congrArg f (Fin.ext rfl))

end Cert.Logit

end
-- ==== Proof.KChunk.lean ====
module

public import proofs.«01_k».proof.Proof.KPoint
public import proofs.«01_k».proof.Proof.Logit

@[expose] public section

set_option maxRecDepth 16384

/-! # The dequantised weights and the point's logits, element by element

At the ideal values: the weight of vocabulary row `v` at column `256 n + 128 h + l` is half `h` of byte `128 n + l` of
the row, less eight, times the scale of the byte's group of 16; and the point's logits are the sums of the weights of a
row times the activations of a token. -/

noncomputable section

namespace Cert.KernelIdeal.Chunk

open Idealize.ShloMosaic Idealize.ShloMosaic.TcCoe Idealize.ShloMosaic.ValueIdx
open Cert.KernelIdeal.Gen Cert.KernelIdeal.Vocab Cert.KernelIdeal.Point

open Cert.Logit (eight)

/-- The low halves of a chunk's bytes, as the kernel unpacks them, are the numbers `Nibble.lo` of the bytes. -/
theorem loNib_apply (w : Vec Ideal S768x128 .i8) (v : Fin 768) (l : Fin 128) :
    loNib (F := Ideal) w (ix2 v l) = Nibble.lo (w (ix2 v l)) := by
  have h := Nibble.bytes_and (R := 768) (r := 192) (n := 128) w bitcasts_S768x128_w8_S192x128_w32 bitcasts_S192x128_w32_S768x128_w8 v l
    (by have := v.isLt; omega)
  refine Eq.trans ?_ (Nibble.lo_eq _)
  exact congrArg (fun b : BitVec 8 => (((b.toInt : ℝ)) : EReal)) h

/-- The high halves likewise, `Nibble.hi` of the bytes. -/
theorem hiNib_apply (w : Vec Ideal S768x128 .i8) (v : Fin 768) (l : Fin 128) :
    hiNib (F := Ideal) w (ix2 v l) = Nibble.hi (w (ix2 v l)) := by
  have h := Nibble.bytes_shr_and (R := 768) (r := 192) (n := 128) w bitcasts_S768x128_w8_S192x128_w32 bitcasts_S192x128_w32_S768x128_w8 v l
    (by have := v.isLt; omega)
  refine Eq.trans ?_ (Nibble.hi_eq _)
  exact congrArg (fun b : BitVec 8 => (((b.toInt : ℝ)) : EReal)) h

/-- The lane numbers. -/
theorem lane_apply (v : Fin 768) (l : Fin 128) : lane (ix2 v l) = BitVec.ofNat 32 l.val :=
  congrArg (BitVec.ofNat 32) (by show 0 * 128 + l.val = l.val; omega)

/-- The kernel's floor division of a lane number by 16 is the division. -/
theorem group_apply (v : Fin 768) (l : Fin 128) : group (ix2 v l) = BitVec.ofNat 32 (l.val / 16) := by
  have key : ∀ l : Fin 128, Scalar.select (IntOp.andi
      (IntOp.cmpi .ne (IntOp.subi ((IntOp.cmpi .sgt (BitVec.ofNat 32 l.val) 0#32).setWidth 32) ((IntOp.cmpi .slt (BitVec.ofNat 32 l.val) 0#32).setWidth 32)) sgn16)
      (IntOp.cmpi .ne (IntOp.remsi .vector (BitVec.ofNat 32 l.val) 16#32) 0#32))
      (IntOp.subi (IntOp.divsi .vector (BitVec.ofNat 32 l.val) 16#32) 1#32) (IntOp.divsi .vector (BitVec.ofNat 32 l.val) 16#32)
      = BitVec.ofNat 32 (l.val / 16) := by decide
  rw [← key l, ← lane_apply v l]
  rfl

/-- The lane a scale is gathered from. -/
theorem gidx_apply (m : Fin 16) (v : Fin 768) (l : Fin 128) :
    (gidx (BitVec.ofNat 32 (8 * m.val)) (ix2 v l)).toNat % 128 = (l.val / 16 + 8 * m.val) % 128 := by
  have key : ∀ (g : Fin 8) (m : Fin 16), (Scalar.select (IntOp.cmpi .slt (IntOp.addi (BitVec.ofNat 32 g.val) (BitVec.ofNat 32 (8 * m.val))) 0#32)
      (IntOp.addi (IntOp.addi (BitVec.ofNat 32 g.val) (BitVec.ofNat 32 (8 * m.val))) 128#32)
      (IntOp.addi (BitVec.ofNat 32 g.val) (BitVec.ofNat 32 (8 * m.val)))).toNat % 128 = (g.val + 8 * m.val) % 128 := by decide
  have hl := l.isLt
  rw [← key ⟨l.val / 16, by omega⟩ m]
  unfold gidx
  simp only [shapeCast_shapeCast, shapeCast_self]
  show (Scalar.select (IntOp.cmpi .slt (IntOp.addi (group (ix2 v l)) _) 0#32) (IntOp.addi (IntOp.addi (group (ix2 v l)) _) 128#32)
    (IntOp.addi (group (ix2 v l)) _)).toNat % 128 = _
  rw [group_apply]
  rfl

/-- The scale a lane of a chunk uses. -/
theorem scales_apply (src : FVec Ideal S768x128 .f32) (m : Fin 16) (v : Fin 768) (l : Fin 128) :
    scales src (BitVec.ofNat 32 (8 * m.val)) (ix2 v l) = src (ix2 v ⟨l.val / 16 + 8 * m.val, by have := l.isLt; have := m.isLt; omega⟩) := by
  have hl := l.isLt
  have hm := m.isLt
  show src _ = src _
  congr 1
  funext b
  match b with
  | ⟨0, _⟩ => rfl
  | ⟨1, _⟩ =>
    refine Fin.ext ?_
    show (gidx (BitVec.ofNat 32 (8 * m.val)) (ix2 v l)).toNat % 128 = l.val / 16 + 8 * m.val
    rw [gidx_apply, Nat.mod_eq_of_lt (by omega)]

/-- The first table scales are gathered from: columns 0 to 127 of the scales. -/
theorem sc0_apply (s : Vec Ideal S768x224 .bf16) (v : Fin 768) (l : Fin 128) :
    sc0 (F := Ideal) s (ix2 v l) = s (ix2 v ⟨l.val, by have := l.isLt; omega⟩) := by
  have h := extractStridedSlice_apply ![0, 0] s slices_S768x224_o0_0_S768x128 (ix2 v l) (ix2 v ⟨l.val, by have := l.isLt; omega⟩) fun a => by
    match a with
    | ⟨0, _⟩ => show v.val = 0 + v.val; omega
    | ⟨1, _⟩ => show l.val = 0 + l.val; omega
  rw [← h]
  rfl

/-- The second: columns 128 to 223, before the padding. -/
theorem sc1_apply (s : Vec Ideal S768x224 .bf16) (v : Fin 768) (l : Fin 128) (hl : l.val < 96) :
    sc1 (F := Ideal) s (ix2 v l) = s (ix2 v ⟨128 + l.val, by omega⟩) := by
  refine (concatenate_pair_apply_left (t := S768x128) 1 (extractStridedSlice S768x96 ![0, 128] s slices_S768x224_o0_128_S768x96) _
    concatenates_S768x96_S768x32_S768x128_d1 (ix2 v l) rfl (ix2 v ⟨l.val, hl⟩) fun b => by
      match b with
      | ⟨0, _⟩ => rfl
      | ⟨1, _⟩ => rfl).trans ?_
  exact extractStridedSlice_apply ![0, 128] s slices_S768x224_o0_128_S768x96 (ix2 v ⟨l.val, hl⟩) (ix2 v ⟨128 + l.val, by omega⟩) fun a => by
    match a with
    | ⟨0, _⟩ => show v.val = 0 + v.val; omega
    | ⟨1, _⟩ => rfl

/-- The scale of lane `l` in chunk `n` is that of the byte's group: column `8 n + l / 16`. -/
theorem scalesAt_apply (s : Vec Ideal S768x224 .bf16) (n : Fin 28) (v : Fin 768) (l : Fin 128) :
    scales (F := Ideal) (if n.val < 16 then sc0 s else sc1 s) (BitVec.ofNat 32 (8 * (n.val % 16))) (ix2 v l)
      = s (ix2 v ⟨(128 * n.val + l.val) / 16, by have := l.isLt; have := n.isLt; omega⟩) := by
  have hl := l.isLt
  have hn := n.isLt
  rw [scales_apply _ ⟨n.val % 16, by omega⟩]
  split_ifs with h
  · rw [sc0_apply]; congr 2; exact Fin.ext (by show l.val / 16 + 8 * (n.val % 16) = (128 * n.val + l.val) / 16; omega)
  · rw [sc1_apply _ _ _ (by show l.val / 16 + 8 * (n.val % 16) < 96; omega)]; congr 2
    exact Fin.ext (by show 128 + (l.val / 16 + 8 * (n.val % 16)) = (128 * n.val + l.val) / 16; omega)

/-- A chunk's low half. -/
theorem chunkAt_lo (s : Vec Ideal S768x224 .bf16) (W : Fin 28 → Vec Ideal S768x128 .i8) (n : Fin 28) (v : Fin 768) (l : Fin 128) :
    chunkAt s W n (ix2 v ⟨l.val, by have := l.isLt; omega⟩) = (Nibble.lo (W n (ix2 v l)) - eight)
      * s (ix2 v ⟨(128 * n.val + l.val) / 16, by have := l.isLt; have := n.isLt; omega⟩) := by
  refine (concatenate_pair_apply_left (t := S768x256) 1 _ _ concatenates_S768x128_S768x128_S768x256_d1 _ rfl (ix2 v l) fun b => by
      match b with
      | ⟨0, _⟩ => rfl
      | ⟨1, _⟩ => rfl).trans ?_
  rw [← scalesAt_apply s n v l, ← loNib_apply]
  rfl

/-- A chunk's high half. -/
theorem chunkAt_hi (s : Vec Ideal S768x224 .bf16) (W : Fin 28 → Vec Ideal S768x128 .i8) (n : Fin 28) (v : Fin 768) (l : Fin 128) :
    chunkAt s W n (ix2 v ⟨128 + l.val, by have := l.isLt; omega⟩) = (Nibble.hi (W n (ix2 v l)) - eight)
      * s (ix2 v ⟨(128 * n.val + l.val) / 16, by have := l.isLt; have := n.isLt; omega⟩) := by
  refine (concatenate_pair_apply_right (t := S768x256) 1 _ _ concatenates_S768x128_S768x128_S768x256_d1 _ rfl rfl (ix2 v l) (fun b hb => by
      match b with
      | ⟨0, _⟩ => rfl
      | ⟨1, _⟩ => exact absurd rfl hb) (by show l.val + 128 = 128 + l.val; omega)).trans ?_
  rw [← scalesAt_apply s n v l, ← hiNib_apply]
  rfl

/-- The bytes of chunk `n`. -/
theorem cols_apply (w : Vec Ideal S768x3584 .i8) (n : Fin 28) (v : Fin 768) (l : Fin 128) :
    cols (F := Ideal) w n (ix2 v l) = w (ix2 v ⟨128 * n.val + l.val, by have := l.isLt; have := n.isLt; omega⟩) := by
  show w _ = w _
  congr 1
  funext b
  match b with
  | ⟨0, _⟩ => exact Fin.ext (by show 0 + 1 * v.val = v.val; omega)
  | ⟨1, _⟩ => exact Fin.ext (by show 128 * n.val + 1 * l.val = 128 * n.val + l.val; omega)

/-- The dequantised weight of row `v` at column `q`. -/
def wt (s : Vec Ideal S768x224 .bf16) (w : Vec Ideal S768x3584 .i8) (v : Fin 768) (q : Fin 7168) : EReal :=
  chunkAt s (cols w) ⟨q.val / 256, by have := q.isLt; omega⟩ (ix2 v ⟨q.val % 256, by omega⟩)

/-- The point's logits: row `v`, token `t`. -/
theorem LG_apply (x : Vec Ideal S256x7168 .bf16) (w : Vec Ideal S768x3584 .i8) (s : Vec Ideal S768x224 .bf16) (v : Fin 768) (t : Fin 256) :
    LG (F := Ideal) x (cols w) s (ix2 v t) = ∑ q : Fin 7168, wt s w v q * x (ix2 t q) := by
  let D := dot_S768x7168_S256x7168_S768x256_1_1_0_0_n_n
  have hD : D.contr.rank = 1 := rfl
  refine (Ideal.matmul_constant_zero_apply D none _ _ _).trans ?_
  refine (Equiv.sum_comp (contrEquiv1 D 7168 hD rfl).symm _).symm.trans ?_
  refine Finset.sum_congr rfl fun q _ => ?_
  have hl : D.lhsIdx (ix2 v t) ((contrEquiv1 D 7168 hD rfl).symm q) = ix2 v q := by
    funext a; match a with
    | ⟨0, _⟩ => rfl
    | ⟨1, _⟩ => exact Fin.ext (contrEquiv1_symm_val D 7168 hD rfl q)
  have hr : D.rhsIdx (ix2 v t) ((contrEquiv1 D 7168 hD rfl).symm q) = ix2 t q := by
    funext a; match a with
    | ⟨0, _⟩ => rfl
    | ⟨1, _⟩ => exact Fin.ext (contrEquiv1_symm_val D 7168 hD rfl q)
  rw [hl, hr, shapeCast_self]
  congr 1
  exact concatenate_ofFn_apply (t := S768x7168) 1 (fun n : Fin 28 => chunkAt s (cols w) n) _ rfl 256 rfl (ix2 v q) ⟨q.val / 256, by have := q.isLt; omega⟩ rfl
    (ix2 v ⟨q.val % 256, by omega⟩) rfl (fun b hb => by
      match b with
      | ⟨0, _⟩ => rfl
      | ⟨1, _⟩ => exact absurd rfl hb)

end Cert.KernelIdeal.Chunk
-- ==== Proof.KLogits.lean ====
module

public import proofs.«01_k».proof.Proof.KChunk
public import proofs.«01_k».proof.Proof.Gen.KernelIdeal.Frame

@[expose] public section

set_option maxRecDepth 16384

/-! # The kernel's logits are the head's logits

The host lays the activations out in the kernel's column order (`xp`); point `p` reads rows `768 p …` of the packed
weights and of the scales. So the logits of point `p` at row `v` and token `t` are the head's logit of vocabulary row
`768 p + v`: the same products, the low halves' and the high halves' taken together. -/

noncomputable section

namespace Cert.KernelIdeal.Logits

open Idealize.ShloMosaic Idealize.ShloMosaic.TcCoe Idealize.ShloMosaic.ValueIdx
open Cert.KernelIdeal.Gen Cert.KernelIdeal.Vocab Cert.KernelIdeal.Point Cert.KernelIdeal.Chunk
open Cert.Logit (eight logit)

/-- The activations in the kernel's column order. -/
def xp (x : Vec Ideal S256x1x7168 .bf16) : Vec Ideal S256x7168 .bf16 :=
  shapeCast S256x7168 (transpose S256x28x2x8x16 [0, 1, 3, 2, 4] (shapeCast S256x28x8x2x16 x shapeCasts_S256x1x7168_S256x28x8x2x16)
    transposes_S256x28x8x2x16_S256x28x2x8x16_0_1_3_2_4) shapeCasts_S256x28x2x8x16_S256x7168

/-- Column `256 c + 128 h + 16 g + k` is activation `256 c + 32 g + 16 h + k`. -/
theorem xp_apply (x : Vec Ideal S256x1x7168 .bf16) (t : Fin 256) (q p : Fin 7168)
    (hp : p.val = 256 * (q.val / 256) + 32 * (q.val % 128 / 16) + 16 * (q.val % 256 / 128) + q.val % 16) :
    xp x (ix2 t q) = x (ix3 t 0 p) := by
  have hq := q.isLt
  refine (shapeCast_apply _ _ (ix2 t q) (ix5 t (⟨q.val / 256, by omega⟩ : Fin 28) (⟨q.val % 256 / 128, by omega⟩ : Fin 2)
    (⟨q.val % 128 / 16, by omega⟩ : Fin 8) (⟨q.val % 16, by omega⟩ : Fin 16)) ?_).trans ?_
  · rw [Shape.rowMajor_val_five, Shape.rowMajor_val_two]
    show (((t.val * 28 + q.val / 256) * 2 + q.val % 256 / 128) * 8 + q.val % 128 / 16) * 16 + q.val % 16 = t.val * 7168 + q.val
    omega
  refine (transpose_apply _ _ _ _ (ix5 t (⟨q.val / 256, by omega⟩ : Fin 28) (⟨q.val % 128 / 16, by omega⟩ : Fin 8)
    (⟨q.val % 256 / 128, by omega⟩ : Fin 2) (⟨q.val % 16, by omega⟩ : Fin 16)) fun b => by fin_cases b <;> rfl).trans ?_
  refine shapeCast_apply _ _ _ (ix3 t 0 p) ?_
  rw [Shape.rowMajor_val_five, Shape.rowMajor_val_three]
  show (t.val * 1 + 0) * 7168 + p.val = (((t.val * 28 + q.val / 256) * 8 + q.val % 128 / 16) * 2 + q.val % 256 / 128) * 16 + q.val % 16
  omega

variable (m : (ℓ : Loc nD τ sig) → Buf (Elt Ideal) ℓ) (c : Dev nD)

/-- The activations. -/
abbrev argX : Vec Ideal S256x1x7168 .bf16 := m ((c : Thread nD τ).loc main_arg0)
/-- The packed weights. -/
abbrev argW : Vec Ideal S16128x3584 .i8 := m ((c : Thread nD τ).loc main_arg1)
/-- The scales. -/
abbrev argS : Vec Ideal S16128x224 .bf16 := m ((c : Thread nD τ).loc main_arg2)

/-- The host's first operand of the kernel is the activations in the kernel's column order. -/
theorem V_v2 : V m c main_v2 = xp (argX m c) := by
  show StableHlo.after hostOps0 (fun b => m (c, b)) (Proc.devRef .tc main_v2) = _
  unfold hostOps0
  after_results_simp
  rfl

/-- Its second operand is the packed weights. -/
theorem V_arg1 : V m c main_arg1 = argW m c := by
  show StableHlo.after hostOps0 (fun b => m (c, b)) (Proc.devRef .tc main_arg1) = _
  unfold hostOps0
  after_results_simp

/-- Its third operand is the scales. -/
theorem V_arg2 : V m c main_arg2 = argS m c := by
  show StableHlo.after hostOps0 (fun b => m (c, b)) (Proc.devRef .tc main_arg2) = _
  unfold hostOps0
  after_results_simp

/-- Point `t` takes row block `t` of the packed weights and of the scales. -/
theorem index1 : ∀ t : Fin cfg0.N, win0_1.index t 0 = t.val ∧ win0_1.index t 1 = 0 ∧ win0_2.index t 0 = t.val ∧ win0_2.index t 1 = 0 := by decide

/-- Every point reads all the activations. -/
theorem iblk0 (t : Fin cfg0.N) : (iblk m c 0 t : Vec Ideal S256x7168 .bf16) = xp (argX m c) := by
  funext j
  rw [← V_v2]
  unfold iblk
  rw [View.read_apply]
  show V m c main_v2 _ = V m c main_v2 _
  congr 1
  funext a
  apply Fin.ext
  match a with
  | ⟨0, _⟩ => show 0 * 256 + 1 * (j 0).val = (j 0).val; omega
  | ⟨1, _⟩ => show 0 * 7168 + 1 * (j 1).val = (j 1).val; omega

/-- Point `p` reads rows `768 p …` of the packed weights. -/
theorem iblk1 (p : Fin cfg0.N) (v : Fin 768) (k : Fin 3584) (r : Fin 16128) (hr : r.val = 768 * p.val + v.val) :
    (iblk m c 1 p : Vec Ideal S768x3584 .i8) (ix2 v k) = argW m c (ix2 r k) := by
  rw [← V_arg1]
  unfold iblk
  rw [View.read_apply]
  show V m c main_arg1 _ = V m c main_arg1 _
  congr 1
  funext a
  apply Fin.ext
  match a with
  | ⟨0, _⟩ => show win0_1.index p 0 * 768 + 1 * v.val = r.val; rw [(index1 p).1]; omega
  | ⟨1, _⟩ => show win0_1.index p 1 * 3584 + 1 * k.val = k.val; rw [(index1 p).2.1]; omega

/-- Point `p` reads rows `768 p …` of the scales. -/
theorem iblk2 (p : Fin cfg0.N) (v : Fin 768) (k : Fin 224) (r : Fin 16128) (hr : r.val = 768 * p.val + v.val) :
    (iblk m c 2 p : Vec Ideal S768x224 .bf16) (ix2 v k) = argS m c (ix2 r k) := by
  rw [← V_arg2]
  unfold iblk
  rw [View.read_apply]
  show V m c main_arg2 _ = V m c main_arg2 _
  congr 1
  funext a
  apply Fin.ext
  match a with
  | ⟨0, _⟩ => show win0_2.index p 0 * 768 + 1 * v.val = r.val; rw [(index1 p).2.2.1]; omega
  | ⟨1, _⟩ => show win0_2.index p 1 * 224 + 1 * k.val = k.val; rw [(index1 p).2.2.2]; omega

/-- The weight in the kernel's column for the low half of byte `k`. -/
theorem wt_lo (s : Vec Ideal S768x224 .bf16) (w : Vec Ideal S768x3584 .i8) (v : Fin 768) (k : Fin 3584) :
    wt s w v ⟨256 * (k.val / 128) + k.val % 128, by omega⟩ = (Nibble.lo (w (ix2 v k)) - eight) * s (ix2 v ⟨k.val / 16, by omega⟩) := by
  have h := chunkAt_lo s (cols w) ⟨k.val / 128, by omega⟩ v ⟨k.val % 128, by omega⟩
  rw [cols_apply] at h
  have e1 : (⟨(256 * (k.val / 128) + k.val % 128) / 256, by omega⟩ : Fin 28) = ⟨k.val / 128, by omega⟩ := Fin.ext (by show (256 * (k.val / 128) + k.val % 128) / 256 = k.val / 128; omega)
  have e2 : (⟨(256 * (k.val / 128) + k.val % 128) % 256, by omega⟩ : Fin 256) = ⟨k.val % 128, by omega⟩ := Fin.ext (by show (256 * (k.val / 128) + k.val % 128) % 256 = k.val % 128; omega)
  have e3 : (⟨128 * (k.val / 128) + k.val % 128, by omega⟩ : Fin 3584) = k := Fin.ext (by show 128 * (k.val / 128) + k.val % 128 = k.val; omega)
  have e4 : (⟨(128 * (k.val / 128) + k.val % 128) / 16, by omega⟩ : Fin 224) = ⟨k.val / 16, by omega⟩ := Fin.ext (by show (128 * (k.val / 128) + k.val % 128) / 16 = k.val / 16; omega)
  unfold wt
  rw [e1, e2]
  refine h.trans ?_
  rw [e3, e4]

/-- The weight in the kernel's column for the high half of byte `k`. -/
theorem wt_hi (s : Vec Ideal S768x224 .bf16) (w : Vec Ideal S768x3584 .i8) (v : Fin 768) (k : Fin 3584) :
    wt s w v ⟨256 * (k.val / 128) + 128 + k.val % 128, by omega⟩ = (Nibble.hi (w (ix2 v k)) - eight) * s (ix2 v ⟨k.val / 16, by omega⟩) := by
  have h := chunkAt_hi s (cols w) ⟨k.val / 128, by omega⟩ v ⟨k.val % 128, by omega⟩
  rw [cols_apply] at h
  have e1 : (⟨(256 * (k.val / 128) + 128 + k.val % 128) / 256, by omega⟩ : Fin 28) = ⟨k.val / 128, by omega⟩ := Fin.ext (by show (256 * (k.val / 128) + 128 + k.val % 128) / 256 = k.val / 128; omega)
  have e2 : (⟨(256 * (k.val / 128) + 128 + k.val % 128) % 256, by omega⟩ : Fin 256) = ⟨128 + k.val % 128, by omega⟩ := Fin.ext (by show (256 * (k.val / 128) + 128 + k.val % 128) % 256 = 128 + k.val % 128; omega)
  have e3 : (⟨128 * (k.val / 128) + k.val % 128, by omega⟩ : Fin 3584) = k := Fin.ext (by show 128 * (k.val / 128) + k.val % 128 = k.val; omega)
  have e4 : (⟨(128 * (k.val / 128) + k.val % 128) / 16, by omega⟩ : Fin 224) = ⟨k.val / 16, by omega⟩ := Fin.ext (by show (128 * (k.val / 128) + k.val % 128) / 16 = k.val / 16; omega)
  unfold wt
  rw [e1, e2]
  refine h.trans ?_
  rw [e3, e4]

/-- The logit of token `t` at vocabulary row `r`. -/
def U (t : Fin 256) (r : Fin 16128) : EReal :=
  logit (fun p => argX m c (ix3 t 0 p)) (fun k => argW m c (ix2 r k)) (fun g => argS m c (ix2 r g))

/-- The logits of point `p`. -/
theorem LG_point (p : Fin cfg0.N) (v : Fin 768) (t : Fin 256) (r : Fin 16128) (hr : r.val = 768 * p.val + v.val) :
    LG (F := Ideal) (iblk m c 0 p) (cols (iblk m c 1 p)) (iblk m c 2 p) (ix2 v t) = U m c t r := by
  rw [LG_apply, Logit.sum_cols]
  unfold U logit
  refine congrArg₂ (· + ·) (Finset.sum_congr rfl fun k _ => ?_) (Finset.sum_congr rfl fun k _ => ?_)
  · rw [wt_lo, iblk0, iblk1 m c p v k r hr, iblk2 m c p v _ r hr, xp_apply _ t _ ⟨32 * (k.val / 16) + k.val % 16, by omega⟩ (by
      show 32 * (k.val / 16) + k.val % 16 = 256 * ((256 * (k.val / 128) + k.val % 128) / 256) + 32 * ((256 * (k.val / 128) + k.val % 128) % 128 / 16)
        + 16 * ((256 * (k.val / 128) + k.val % 128) % 256 / 128) + (256 * (k.val / 128) + k.val % 128) % 16
      omega)]
    exact mul_comm _ _
  · rw [wt_hi, iblk0, iblk1 m c p v k r hr, iblk2 m c p v _ r hr, xp_apply _ t _ ⟨32 * (k.val / 16) + 16 + k.val % 16, by omega⟩ (by
      show 32 * (k.val / 16) + 16 + k.val % 16 = 256 * ((256 * (k.val / 128) + 128 + k.val % 128) / 256) + 32 * ((256 * (k.val / 128) + 128 + k.val % 128) % 128 / 16)
        + 16 * ((256 * (k.val / 128) + 128 + k.val % 128) % 256 / 128) + (256 * (k.val / 128) + 128 + k.val % 128) % 16
      omega)]
    exact mul_comm _ _

end Cert.KernelIdeal.Logits

end
-- ==== Proof.Top2.lean ====
module

public import Idealize.ShloMosaic.Lib.Pipeline.Value

@[expose] public section

/-! # The best two of a sequence, found in one pass

A pass over a sequence that keeps the best value, the second best value (counted with repetition) and the first place
of the best one; and how eight such passes, over the entries of a sequence taken eight apart, combine into the pass
over the whole. Everything here is about a linear order with a least element. -/

namespace Cert.Top2

variable {α : Type} [LinearOrder α] [OrderBot α]

/-- The pass over the first `n` entries: best value, second best value, place of the best. -/
def best (a : ℕ → α) : ℕ → α × α × ℕ
  | 0 => (⊥, ⊥, 0)
  | n + 1 => (max (best a n).1 (a n), max (best a n).2.1 (min (a n) (best a n).1),
      if (best a n).1 < a n then n else (best a n).2.2)

/-- `k` is the first place among the first `n` where `a` is largest. -/
structure First (a : ℕ → α) (n k : ℕ) : Prop where
  lt : k < n
  le : ∀ j < n, a j ≤ a k
  before : ∀ j < k, a j < a k

/-- There is only one first place of the largest value. -/
theorem First.unique {a : ℕ → α} {n k l : ℕ} (h : First a n k) (g : First a n l) : k = l := by
  rcases lt_trichotomy k l with hl | hl | hl
  · exact absurd (h.le l g.lt) (not_le.mpr (g.before k hl))
  · exact hl
  · exact absurd (g.le k h.lt) (not_le.mpr (h.before l hl))

/-- The largest of the first `n` entries other than entry `k`. -/
def others (a : ℕ → α) (n k : ℕ) : α := ((Finset.range n).erase k).sup a

/-- What the pass holds once it has seen an entry. -/
theorem best_spec (a : ℕ → α) (n : ℕ) :
    First a (n + 1) (best a (n + 1)).2.2 ∧ (best a (n + 1)).1 = a (best a (n + 1)).2.2
      ∧ (best a (n + 1)).2.1 = others a (n + 1) (best a (n + 1)).2.2 := by
  induction n with
  | zero =>
    have hk : (best a (0 + 1)).2.2 = 0 := by rw [best]; exact ite_self 0
    have h0 : (best a (0 + 1)).1 = a 0 := by simp [best]
    have h1 : (best a (0 + 1)).2.1 = ⊥ := by simp [best]
    refine ⟨⟨by rw [hk]; exact Nat.one_pos, fun j hj => ?_, fun j hj => by rw [hk] at hj; omega⟩, by rw [h0, hk], by rw [h1, hk]; simp [others]⟩
    rw [hk]; have : j = 0 := by omega
    rw [this]
  | succ n ih =>
    obtain ⟨hF, hv, ho⟩ := ih
    by_cases hx : (best a (n + 1)).1 < a (n + 1)
    · have hk : (best a (n + 2)).2.2 = n + 1 := by rw [best]; exact if_pos hx
      have h0 : (best a (n + 2)).1 = a (n + 1) := by rw [best]; exact max_eq_right hx.le
      have h1 : (best a (n + 2)).2.1 = max (best a (n + 1)).2.1 (best a (n + 1)).1 := by
        rw [best]; show max _ (min _ _) = _; rw [min_eq_right hx.le]
      have hlt : ∀ j < n + 1, a j < a (n + 1) := fun j hj => lt_of_le_of_lt ((hF.le j hj).trans hv.ge) hx
      refine ⟨⟨by rw [hk]; exact Nat.lt_succ_self _, fun j hj => ?_, fun j hj => ?_⟩, by rw [h0, hk], ?_⟩
      · rw [hk]; rcases Nat.lt_succ_iff_lt_or_eq.mp hj with h | h
        · exact (hlt j h).le
        · rw [h]
      · rw [hk] at hj ⊢; exact hlt j hj
      · rw [h1, hk, ho, hv, others, others]
        have e1 : (Finset.range (n + 1 + 1)).erase (n + 1) = Finset.range (n + 1) := by
          ext j; simp only [Finset.mem_erase, Finset.mem_range]; omega
        rw [e1]
        conv_rhs => rw [← Finset.insert_erase (Finset.mem_range.mpr hF.lt)]
        rw [Finset.sup_insert, sup_comm]
    · have hle := not_lt.mp hx
      have hk : (best a (n + 2)).2.2 = (best a (n + 1)).2.2 := by rw [best]; exact if_neg hx
      have h0 : (best a (n + 2)).1 = (best a (n + 1)).1 := by rw [best]; exact max_eq_left hle
      have h1 : (best a (n + 2)).2.1 = max (best a (n + 1)).2.1 (a (n + 1)) := by
        rw [best]; show max _ (min _ _) = _; rw [min_eq_left hle]
      refine ⟨⟨by rw [hk]; exact hF.lt.trans (Nat.lt_succ_self _), fun j hj => ?_, fun j hj => ?_⟩, by rw [h0, hk, hv], ?_⟩
      · rw [hk]; rcases Nat.lt_succ_iff_lt_or_eq.mp hj with h | h
        · exact hF.le j h
        · rw [h, ← hv]; exact hle
      · rw [hk] at hj ⊢; exact hF.before j hj
      · rw [h1, hk, ho, others, others]
        have e1 : (Finset.range (n + 1 + 1)).erase (best a (n + 1)).2.2
            = insert (n + 1) ((Finset.range (n + 1)).erase (best a (n + 1)).2.2) := by
          have := hF.lt
          ext j; simp only [Finset.mem_erase, Finset.mem_range, Finset.mem_insert]; omega
        rw [e1, Finset.sup_insert, sup_comm]

/-- Entries eight apart, from entry `s` on. -/
def lane (u : ℕ → α) (s : ℕ) (j : ℕ) : α := u (8 * j + s)

/-- The first largest place of the whole lies in one of the eight sequences, and is the first largest place there. -/
theorem First.lane {u : ℕ → α} {n K : ℕ} (h : First u (8 * n) K) : First (lane u (K % 8)) n (K / 8) := by
  have e : 8 * (K / 8) + K % 8 = K := Nat.div_add_mod K 8
  have hl := h.lt
  refine ⟨by omega, fun j hj => ?_, fun j hj => ?_⟩
  · unfold Top2.lane; rw [e]; exact h.le _ (by omega)
  · unfold Top2.lane; rw [e]; exact h.before _ (by omega)

/-- The whole has a first largest place. -/
theorem exists_first (u : ℕ → α) (n : ℕ) : ∃ K, First u (n + 1) K := ⟨_, (best_spec u n).1⟩

section Combine

variable (u : ℕ → α) (n : ℕ)

/-- The eight best values. -/
def b1 (s : ℕ) : α := (best (lane u s) n).1
/-- The eight second best values. -/
def b2 (s : ℕ) : α := (best (lane u s) n).2.1
/-- The places of the eight best values in the whole. -/
def bk (s : ℕ) : ℕ := 8 * (best (lane u s) n).2.2 + s

variable {u n} {K : ℕ}

/-- Each of the eight places lies in the whole. -/
theorem bk_lt (hn : 0 < n) {s : ℕ} (hs : s < 8) : bk u n s < 8 * n := by
  obtain ⟨m, rfl⟩ := Nat.exists_eq_succ_of_ne_zero hn.ne'
  have := (best_spec (lane u s) m).1.lt
  show 8 * (best (lane u s) (m + 1)).2.2 + s < 8 * (m + 1); omega

/-- Each best value is the whole's entry at its place. -/
theorem b1_eq (hn : 0 < n) (s : ℕ) : b1 u n s = u (bk u n s) := by
  obtain ⟨m, rfl⟩ := Nat.exists_eq_succ_of_ne_zero hn.ne'
  exact (best_spec (lane u s) m).2.1

/-- None of the eight best values exceeds the whole's largest. -/
theorem b1_le (hn : 0 < n) (h : First u (8 * n) K) {s : ℕ} (hs : s < 8) : b1 u n s ≤ u K := by
  rw [b1_eq hn]; exact h.le _ (bk_lt hn hs)

/-- The sequence holding the whole's first largest place reports it. -/
theorem bk_K (h : First u (8 * n) K) : bk u n (K % 8) = K := by
  have hl := h.lt
  obtain ⟨m, rfl⟩ := Nat.exists_eq_succ_of_ne_zero (show n ≠ 0 by omega)
  have := (best_spec (lane u (K % 8)) m).1.unique h.lane
  unfold bk; rw [Nat.succ_eq_add_one, this]; exact Nat.div_add_mod K 8

/-- The largest of the eight best values is the whole's. -/
theorem sup_b1 (h : First u (8 * n) K) : (Finset.range 8).sup (b1 u n) = u K := by
  have hn : 0 < n := by have := h.lt; omega
  refine le_antisymm (Finset.sup_le fun s hs => b1_le hn h (Finset.mem_range.mp hs)) ?_
  have := Finset.le_sup (f := b1 u n) (Finset.mem_range.mpr (Nat.mod_lt K (by decide : 0 < 8)))
  rwa [b1_eq hn, bk_K h] at this

/-- A sequence whose best value is the whole's reports a place no earlier than the whole's first. -/
theorem le_bk (h : First u (8 * n) K) {s : ℕ} (hs : b1 u n s = u K) : K ≤ bk u n s := by
  have hn : 0 < n := by have := h.lt; omega
  by_contra hc
  have := h.before _ (not_le.mp hc)
  rw [← b1_eq (u := u) hn, hs] at this
  exact lt_irrefl _ this

/-- Two sequences never report the same place. -/
theorem bk_eq_iff (h : First u (8 * n) K) {s : ℕ} (hs : s < 8) : bk u n s = K ↔ s = K % 8 := by
  constructor
  · intro e; unfold bk at e; omega
  · rintro rfl; exact bk_K h

/-- The largest of the eight, the sequence holding the first largest place giving its second best instead, is the
    largest of the whole's other entries. -/
theorem sup_second (h : First u (8 * n) K) :
    (Finset.range 8).sup (fun s => if bk u n s = K then b2 u n s else b1 u n s) = others u (8 * n) K := by
  have hl := h.lt
  have hn : 0 < n := by omega
  obtain ⟨m, rfl⟩ := Nat.exists_eq_succ_of_ne_zero hn.ne'
  refine le_antisymm (Finset.sup_le fun s hs => ?_) (Finset.sup_le fun v hv => ?_)
  · have hs' := Finset.mem_range.mp hs
    have hsp := best_spec (lane u s) m
    split_ifs with e
    · show (best (lane u s) (m + 1)).2.1 ≤ _
      rw [hsp.2.2]
      refine Finset.sup_le fun j hj => ?_
      have hj' := Finset.mem_erase.mp hj
      have := Finset.mem_range.mp hj'.2
      refine Finset.le_sup (f := u) (b := 8 * j + s) (Finset.mem_erase.mpr ⟨?_, Finset.mem_range.mpr (by omega)⟩)
      have e' : 8 * (best (lane u s) (m + 1)).2.2 + s = K := e
      omega
    · rw [b1_eq hn]
      exact Finset.le_sup (f := u) (Finset.mem_erase.mpr ⟨e, Finset.mem_range.mpr (bk_lt hn hs')⟩)
  · obtain ⟨hv1, hv2⟩ := Finset.mem_erase.mp hv
    have hv3 := Finset.mem_range.mp hv2
    have hv4 : 8 * (v / 8) + v % 8 = v := Nat.div_add_mod v 8
    have hsp := best_spec (lane u (v % 8)) m
    refine le_trans ?_ (Finset.le_sup (f := fun s => if bk u (m + 1) s = K then b2 u (m + 1) s else b1 u (m + 1) s)
      (Finset.mem_range.mpr (Nat.mod_lt v (by decide : 0 < 8))))
    have hval : u v = lane u (v % 8) (v / 8) := by unfold Top2.lane; rw [hv4]
    split_ifs with e
    · show u v ≤ (best (lane u (v % 8)) (m + 1)).2.1
      rw [hsp.2.2, hval]
      refine Finset.le_sup (f := lane u (v % 8)) (Finset.mem_erase.mpr ⟨?_, Finset.mem_range.mpr (by omega)⟩)
      have e' : 8 * (best (lane u (v % 8)) (m + 1)).2.2 + v % 8 = K := e
      omega
    · show u v ≤ (best (lane u (v % 8)) (m + 1)).1
      rw [hsp.2.1, hval]
      exact hsp.1.le _ (by omega)

end Combine

end Cert.Top2
-- ==== Proof.KState.lean ====
module

public import proofs.«01_k».proof.Proof.KLogits
public import proofs.«01_k».proof.Proof.Top2

@[expose] public section

set_option maxRecDepth 16384

/-! # What the three scratches hold after each point

Sublane `s` and lane `t` of the scratches hold, after point `p`, the pass of `Top2.best` over token `t`'s logits at the
vocabulary rows `s, 8 + s, 16 + s, …` below `768 (p + 1)`: the best value, the second best, and the number of the slice
of the best one. At the last point the three results are read off these. -/

noncomputable section

namespace Cert.KernelIdeal.State

open Idealize.ShloMosaic Idealize.ShloMosaic.TcCoe Idealize.ShloMosaic.ValueIdx
open Cert.KernelIdeal.Gen Cert.KernelIdeal.Vocab Cert.KernelIdeal.Point Cert.KernelIdeal.Logits
open Cert.Top2 (best lane)

/-- Sublane `s`'s values, second best values and slice numbers are those of the pass over the first `n` slices. -/
def Holds (u : Fin 256 → ℕ → EReal) (n : ℕ) (a b : FVec Ideal S8x256 .f32) (d : IVec S8x256 32) : Prop :=
  ∀ (s : Fin 8) (t : Fin 256), a (ix2 s t) = (best (lane (u t) s.val) n).1 ∧ b (ix2 s t) = (best (lane (u t) s.val) n).2.1
    ∧ d (ix2 s t) = BitVec.ofNat 32 (best (lane (u t) s.val) n).2.2

/-- Slice `n` of a point's logits holds its rows `8 n` to `8 n + 7`. -/
theorem row_apply (L : FVec Ideal S768x256 .f32) (n : ℕ) (h : n < 96) (s : Fin 8) (t : Fin 256) :
    row L n h (ix2 s t) = L (ix2 ⟨8 * n + s.val, by omega⟩ t) :=
  extractStridedSlice_apply ![8 * n, 0] L _ (ix2 s t) (ix2 ⟨8 * n + s.val, by omega⟩ t) fun a => by
    match a with
    | ⟨0, _⟩ => rfl
    | ⟨1, _⟩ => show t.val = 0 + t.val; omega

/-- The number of slice `n` of point `p`, as the kernel computes it. -/
theorem slice_no (p n : ℕ) : Scalar.addi (Scalar.muli (BitVec.ofNat 32 p) 96#32) (BitVec.ofNat 32 n) = BitVec.ofNat 32 (96 * p + n) := by
  show BitVec.ofNat 32 p * 96#32 + BitVec.ofNat 32 n = _
  apply BitVec.eq_of_toNat_eq
  simp only [BitVec.toNat_add, BitVec.toNat_mul, BitVec.toNat_ofNat]
  omega

/-- One point's slices extend the pass. -/
theorem step_upto (u : Fin 256 → ℕ → EReal) (p : ℕ) (L : FVec Ideal S768x256 .f32)
    (hL : ∀ (s : Fin 8) (n : ℕ) (hn : n < 96) (t : Fin 256), L (ix2 ⟨8 * n + s.val, by omega⟩ t) = lane (u t) s.val (96 * p + n))
    (a b : FVec Ideal S8x256 .f32) (d : IVec S8x256 32) (h : Holds u (96 * p) a b d) (n : ℕ) (hn : n ≤ 96) :
    Holds u (96 * p + n) (m1 L a n hn) (m2 L a b n hn) (ids (BitVec.ofNat 32 p) L a d n hn) := by
  induction n with
  | zero => exact h
  | succ n ih =>
    intro s t
    obtain ⟨h1, h2, h3⟩ := ih (Nat.le_of_succ_le hn) s t
    have hr := (row_apply L n hn s t).trans (hL s n hn t)
    refine ⟨?_, ?_, ?_⟩
    · show max (m1 L a n _ (ix2 s t)) (row L n hn (ix2 s t)) = max _ _
      rw [h1, hr]
      rfl
    · show max (m2 L a b n _ (ix2 s t)) (min (row L n hn (ix2 s t)) (m1 L a n _ (ix2 s t))) = max _ (min _ _)
      rw [h1, h2, hr]
      rfl
    · show Scalar.select (Ideal.cmp .ogt (row L n hn (ix2 s t)) (m1 L a n _ (ix2 s t))) (Scalar.addi (Scalar.muli (BitVec.ofNat 32 p) 96#32) (BitVec.ofNat 32 n))
        (ids (BitVec.ofNat 32 p) L a d n _ (ix2 s t))
        = BitVec.ofNat 32 (if (best (lane (u t) s.val) (96 * p + n)).1 < lane (u t) s.val (96 * p + n) then 96 * p + n else (best (lane (u t) s.val) (96 * p + n)).2.2)
      rw [h1, h3, hr, slice_no]
      by_cases hc : (best (lane (u t) s.val) (96 * p + n)).1 < lane (u t) s.val (96 * p + n)
      · rw [if_pos hc]; simp [Ideal.cmp, hc, Scalar.select]
      · rw [if_neg hc]; simp [Ideal.cmp, hc, Scalar.select]

/-- The value minus infinity, as the kernel writes it. -/
theorem neg_inf : Ideal.ofBits .f32 0xFF800000#32 = (⊥ : EReal) := by simp [Ideal.ofBits, Ideal.ieee]

/-- What the first point stores before its slices. -/
theorem init (u : Fin 256 → ℕ → EReal) : Holds u (96 * 0) (k0_pay5 (F := Ideal)) (k0_pay6 (F := Ideal)) k0_pay7 := by
  intro s t
  unfold k0_pay5 k0_pay6 k0_pay7
  simp only [shapeCast_self]
  exact ⟨neg_inf, neg_inf, rfl⟩

variable (m : (ℓ : Loc nD τ sig) → Buf (Elt Ideal) ℓ) (c : Dev nD)

/-- Token `t`'s logits as a sequence. -/
def u (t : Fin 256) (r : ℕ) : EReal := if h : r < 16128 then U m c t ⟨r, h⟩ else ⊥

/-- Point `p`'s logits are the next 768 of the sequence. -/
theorem LG_u (p : Fin cfg0.N) (s : Fin 8) (n : ℕ) (hn : n < 96) (t : Fin 256) :
    LG (F := Ideal) (iblk m c 0 p) (cols (iblk m c 1 p)) (iblk m c 2 p) (ix2 ⟨8 * n + s.val, by omega⟩ t)
      = lane (u m c t) s.val (96 * p.val + n) := by
  have hp : p.val < 21 := p.isLt
  show _ = u m c t (8 * (96 * p.val + n) + s.val)
  have hr : 8 * (96 * p.val + n) + s.val < 16128 := by omega
  unfold u
  rw [dif_pos hr]
  exact LG_point m c p _ t ⟨_, hr⟩ (by show 8 * (96 * p.val + n) + s.val = 768 * p.val + (8 * n + s.val); omega)

/-- The grid has one axis, so a point's coordinate is its number. -/
theorem coord : ∀ p : Fin cfg0.N, (grid0.coords p 0).val = p.val := by decide

/-- A point's slices, over what the point before left. -/
theorem step (p : Fin cfg0.N) (a b : FVec Ideal S8x256 .f32) (d : IVec S8x256 32) (h : Holds (u m c) (96 * p.val) a b d) :
    Holds (u m c) (96 * (p.val + 1)) (m1 (LG (F := Ideal) (iblk m c 0 p) (cols (iblk m c 1 p)) (iblk m c 2 p)) a 96 (Nat.le_refl _))
      (m2 (LG (F := Ideal) (iblk m c 0 p) (cols (iblk m c 1 p)) (iblk m c 2 p)) a b 96 (Nat.le_refl _))
      (ids (BitVec.ofNat 32 (grid0.coords p 0).val) (LG (F := Ideal) (iblk m c 0 p) (cols (iblk m c 1 p)) (iblk m c 2 p)) a d 96 (Nat.le_refl _)) := by
  rw [coord]
  exact step_upto (u m c) p.val _ (fun s n hn t => LG_u m c p s n hn t) a b d h 96 (Nat.le_refl _)

/-- The scratches after each point but the last. -/
theorem holds (n : ℕ) (hn : n < 20) : Holds (u m c) (96 * (n + 1)) (outsAt0 m c n (Nat.lt_trans hn (by decide))).2.2.2.1
    (outsAt0 m c n (Nat.lt_trans hn (by decide))).2.2.2.2.1 (outsAt0 m c n (Nat.lt_trans hn (by decide))).2.2.2.2.2 := by
  induction n with
  | zero =>
    have e := outsAt0_A m c ⟨0, by decide⟩ rfl (by decide)
    have hs := step m c ⟨0, by decide⟩ _ _ _ (init (u m c))
    rw [show outsAt0 m c 0 _ = _ from e]
    dsimp only
    rw [sA_0, sA_1, sA_2]
    exact hs
  | succ n ih =>
    have e := outsAt0_B m c ⟨n + 1, Nat.lt_trans hn (by decide)⟩ (by show ¬(n + 1) % 21 = 0; omega) (by show ¬(n + 1) % 21 = 20; omega)
    have hs := step m c ⟨n + 1, Nat.lt_trans hn (by decide)⟩ _ _ _ (ih (by omega))
    rw [show outsAt0 m c (n + 1) _ = _ from e]
    dsimp only
    rw [sB_0, sB_1, sB_2]
    exact hs

/-- The last point reads its results off the completed passes. -/
theorem last : ∃ a b d, Holds (u m c) 2016 a b d ∧ (outsAt0 m c 20 (by decide)).1 = k0_pay3 (F := Ideal) a d
    ∧ (outsAt0 m c 20 (by decide)).2.1 = k0_pay4 (F := Ideal) a b d ∧ (outsAt0 m c 20 (by decide)).2.2.1 = k0_pay2 (F := Ideal) a := by
  have e := outsAt0_C m c ⟨20, by decide⟩ (by decide) rfl
  have hs := step m c ⟨20, by decide⟩ _ _ _ (holds m c 19 (by decide))
  refine ⟨_, _, _, hs, ?_, ?_, ?_⟩ <;> rw [show outsAt0 m c 20 _ = _ from e] <;> dsimp only
  · exact oC_3 ..
  · exact oC_4 ..
  · exact oC_5 ..

end Cert.KernelIdeal.State

end
-- ==== Proof.Folds.lean ====
module

public import proofs.«01_k».proof.Proof.Top2
public import Idealize.ShloMosaic.PureOps.Ideal.Laws

@[expose] public section

/-! # Reductions over a number of places

The maximum of values from minus infinity as the supremum over the first places, the signed minimum of small integers,
and comparisons of small integers as 32-bit words. -/

noncomputable section

namespace Cert.Folds

open Idealize.ShloMosaic

/-- The value minus infinity, as the programs write it. -/
theorem neg_inf : FloatOps.ofBits (F := Ideal) .f32 0xFF800000#32 = (⊥ : EReal) := by
  show Ideal.ofBits .f32 0xFF800000#32 = _
  simp [Ideal.ofBits, Ideal.ieee]

/-- A maximum over `n` places, from minus infinity, is the supremum over the first `n` numbers. -/
theorem fold_max (n : ℕ) (f : Fin n → EReal) (g : ℕ → EReal) (h : ∀ k, f k = g k.val) :
    (Finset.univ : Finset (Fin n)).fold max (⊥ : EReal) f = (Finset.range n).sup g := by
  show (Finset.univ : Finset (Fin n)).sup f = _
  refine le_antisymm (Finset.sup_le fun k _ => ?_) (Finset.sup_le fun k hk => ?_)
  · rw [h k]; exact Finset.le_sup (f := g) (Finset.mem_range.mpr k.isLt)
  · have hk := Finset.mem_range.mp hk
    exact (h ⟨k, hk⟩).symm.le.trans (Finset.le_sup (f := f) (Finset.mem_univ _))

/-- Signed order of words that stand for numbers below `2 ^ 31`. -/
theorem slt_ofNat {i j : ℕ} (hi : i < 2 ^ 31) (hj : j < 2 ^ 31) : (BitVec.ofNat 32 i).slt (BitVec.ofNat 32 j) = decide (i < j) := by
  rw [BitVec.slt_eq_decide, BitVec.toInt_eq_toNat_cond, BitVec.toInt_eq_toNat_cond]
  simp only [BitVec.toNat_ofNat]
  rw [if_pos (by omega), if_pos (by omega), Nat.mod_eq_of_lt (by omega), Nat.mod_eq_of_lt (by omega)]
  simp

/-- Words that stand for small numbers are equal when the numbers are. -/
theorem ofNat_inj {i j : ℕ} (hi : i < 2 ^ 31) (hj : j < 2 ^ 31) : BitVec.ofNat 32 i = BitVec.ofNat 32 j ↔ i = j := by
  constructor
  · intro h
    have := congrArg BitVec.toNat h
    simp only [BitVec.toNat_ofNat] at this
    omega
  · rintro rfl; rfl

/-- The signed smaller of two words that stand for small numbers stands for the smaller number. -/
theorem minsi_ofNat {i j : ℕ} (hi : i < 2 ^ 31) (hj : j < 2 ^ 31) :
    IntOp.minsi (BitVec.ofNat 32 i) (BitVec.ofNat 32 j) = BitVec.ofNat 32 (min i j) := by
  unfold IntOp.minsi
  rw [slt_ofNat hi hj]
  by_cases h : i < j
  · simp [h, min_eq_left h.le]
  · simp [h, min_eq_right (not_lt.mp h)]

/-- The signed minimum of words that stand for small numbers stands for their minimum. -/
theorem fold_minsi {ι : Type} [DecidableEq ι] (S : Finset ι) (M : ℕ) (hM : M < 2 ^ 31) (v : ι → ℕ) (hv : ∀ k, v k < 2 ^ 31) :
    S.fold IntOp.minsi (BitVec.ofNat 32 M) (fun k => BitVec.ofNat 32 (v k)) = BitVec.ofNat 32 (S.fold min M v) ∧ S.fold min M v < 2 ^ 31 := by
  induction S using Finset.induction_on with
  | empty => exact ⟨rfl, hM⟩
  | insert a S ha ih =>
    rw [Finset.fold_insert ha, Finset.fold_insert ha, ih.1, minsi_ofNat (hv a) ih.2]
    exact ⟨rfl, lt_of_le_of_lt (min_le_right _ _) ih.2⟩

/-- The signed minimum is `K` when `K` is among the numbers and none is smaller. -/
theorem minsi_eq {ι : Type} [DecidableEq ι] (S : Finset ι) (M : ℕ) (hM : M < 2 ^ 31) (v : ι → ℕ) (hv : ∀ k, v k < 2 ^ 31) (K : ℕ)
    (hKM : K ≤ M) (hle : ∀ k ∈ S, K ≤ v k) (hK : ∃ k ∈ S, v k = K) :
    S.fold IntOp.minsi (BitVec.ofNat 32 M) (fun k => BitVec.ofNat 32 (v k)) = BitVec.ofNat 32 K := by
  rw [(fold_minsi S M hM v hv).1]
  obtain ⟨k, hk, e⟩ := hK
  congr 1
  exact le_antisymm ((Finset.fold_min_le _).mpr (Or.inr ⟨k, hk, e.le⟩)) ((Finset.le_fold_min _).mpr ⟨hKM, hle⟩)

end Cert.Folds

end
-- ==== Proof.KFinal.lean ====
module

public import proofs.«01_k».proof.Proof.KState
public import proofs.«01_k».proof.Proof.Folds

@[expose] public section

set_option maxRecDepth 16384

/-! # The kernel's three results

From the eight sublanes' passes the last point reads each token's largest logit, the first vocabulary row that attains
it, and the largest minus the second largest. -/

noncomputable section

namespace Cert.KernelIdeal.Final

open Idealize.ShloMosaic Idealize.ShloMosaic.TcCoe Idealize.ShloMosaic.ValueIdx
open Cert.KernelIdeal.Gen Cert.KernelIdeal.State
open Cert.Top2 (best lane First others b1 b2 bk)

/-- Putting sublane `k` back over token `t`. -/
theorem lift_eq (t : Fin 256) (k : Fin 8) : reduces_S8x256_S256.lift (ix1 t) k = ix2 k t := by
  funext a
  match a with
  | ⟨0, _⟩ => exact Fin.ext rfl
  | ⟨1, _⟩ => exact Fin.ext rfl

variable {w : Fin 256 → ℕ → EReal} {a b : FVec Ideal S8x256 .f32} {d : IVec S8x256 32}

/-- A maximum over the sublanes. -/
theorem max_apply (x : FVec Ideal S8x256 .f32) (t : Fin 256) (g : ℕ → EReal) (h : ∀ s : Fin 8, x (ix2 s t) = g s.val) :
    shapeCast S1x256 (multiReduction .maximumf [0] S256 x 0xFF800000#32 reduces_S8x256_S256 (.inl rfl) rfl) shapeCasts_S256_S1x256 (ix2 0 t)
      = (Finset.range 8).sup g := by
  rw [shapeCast_apply _ _ (ix2 0 t) (ix1 t) (by rw [Shape.rowMajor_val_one, Shape.rowMajor_val_two]; show t.val = 0 * 256 + t.val; omega)]
  refine (Ideal.multiReduction_maximumf_single x 0xFF800000#32 reduces_S8x256_S256 (.inl rfl) rfl (ix1 t)).trans ?_
  rw [Folds.neg_inf]
  exact Folds.fold_max 8 _ g fun s => (congrArg x (lift_eq t s)).trans (h s)

/-- A row repeated over the sublanes. -/
theorem rows_apply {α : Type} (x : S1x256.Idx → α) (s : Fin 8) (t : Fin 256) :
    broadcastTo S8x256 x broadcasts_S1x256_S8x256 (ix2 s t) = x (ix2 0 t) :=
  broadcastTo_apply x _ _ _ fun a => by
    match a with
    | ⟨0, _⟩ => rfl
    | ⟨1, _⟩ => rfl

/-- The largest logit. -/
theorem pay2_apply (h : Holds w 2016 a b d) (t : Fin 256) {K : ℕ} (hK : First (w t) 16128 K) : k0_pay2 (F := Ideal) a (ix2 0 t) = w t K :=
  (max_apply a t (b1 (w t) 2016) fun s => (h s t).1).trans (Top2.sup_b1 (n := 2016) hK)

/-- Each sublane's place in the vocabulary. -/
theorem pay1_apply (h : Holds w 2016 a b d) (s : Fin 8) (t : Fin 256) :
    k0_pay1 (F := Ideal) d (ix2 s t) = BitVec.ofNat 32 (bk (w t) 2016 s.val) := by
  show d (ix2 s t) * 8#32 + BitVec.ofNat 32 (0 * 8 + s.val) = _
  rw [(h s t).2.2]
  unfold bk
  apply BitVec.eq_of_toNat_eq
  simp only [BitVec.toNat_add, BitVec.toNat_mul, BitVec.toNat_ofNat]
  omega

/-- Each sublane's place lies in the vocabulary. -/
theorem bk_small (t : Fin 256) (s : Fin 8) : bk (w t) 2016 s.val < 16128 := Top2.bk_lt (u := w t) (n := 2016) (by decide) s.isLt

/-- The first row attaining the largest logit. -/
theorem pay3_apply (h : Holds w 2016 a b d) (t : Fin 256) {K : ℕ} (hK : First (w t) 16128 K) :
    k0_pay3 (F := Ideal) a d (ix2 0 t) = BitVec.ofNat 32 K := by
  have hl := hK.lt
  unfold k0_pay3
  dsimp only
  rw [shapeCast_apply _ _ (ix2 0 t) (ix1 t) (by rw [Shape.rowMajor_val_one, Shape.rowMajor_val_two]; show t.val = 0 * 256 + t.val; omega)]
  refine (multiReductionI_eq_fold .minsi _ _ reduces_S8x256_S256 rfl (ix1 t)).trans ?_
  refine (reduces_S8x256_S256.fold_filter_drop_single IntOp.minsi _ _ (ix1 t)).trans ?_
  have hx : ∀ s : Fin 8, select (cmpf .oeq a (broadcastTo S8x256 (k0_pay2 (F := Ideal) a) broadcasts_S1x256_S8x256)) (k0_pay1 (F := Ideal) d) (broadcast S8x256 16128#32) (ix2 s t)
      = BitVec.ofNat 32 (if b1 (w t) 2016 s.val = w t K then bk (w t) 2016 s.val else 16128) := by
    intro s
    show Scalar.select (Ideal.cmp .oeq (a (ix2 s t)) (broadcastTo S8x256 (k0_pay2 (F := Ideal) a) broadcasts_S1x256_S8x256 (ix2 s t))) (k0_pay1 (F := Ideal) d (ix2 s t)) 16128#32 = _
    rw [rows_apply, pay2_apply h t hK, pay1_apply h, (h s t).1]
    show Scalar.select (Ideal.cmp .oeq (b1 (w t) 2016 s.val) (w t K)) _ _ = _
    by_cases hc : b1 (w t) 2016 s.val = w t K
    · simp [Ideal.cmp, hc, Scalar.select]
    · simp [Ideal.cmp, hc, Scalar.select]
  refine (congrArg (fun f => (Finset.univ : Finset (Fin 8)).fold IntOp.minsi (BitVec.ofNat 32 2147483647) f)
    (funext fun s => (congrArg _ (lift_eq t s)).trans (hx s))).trans ?_
  refine Folds.minsi_eq _ _ (by decide) _ (fun s => ?_) K (by omega) (fun s _ => ?_) ⟨⟨K % 8, by omega⟩, Finset.mem_univ _, ?_⟩
  · have := bk_small (w := w) t s
    split_ifs <;> omega
  · split_ifs with hc
    · exact Top2.le_bk (n := 2016) hK hc
    · omega
  · have e := Top2.bk_K (n := 2016) hK
    have e1 := Top2.b1_eq (u := w t) (n := 2016) (by decide) (K % 8)
    rw [e] at e1
    rw [if_pos e1]
    exact e

/-- The largest logit minus the second largest. -/
theorem pay4_apply (h : Holds w 2016 a b d) (t : Fin 256) {K : ℕ} (hK : First (w t) 16128 K) :
    k0_pay4 (F := Ideal) a b d (ix2 0 t) = w t K - others (w t) 16128 K := by
  have hl := hK.lt
  rw [← pay2_apply h t hK, ← Top2.sup_second (n := 2016) hK]
  refine congrArg (k0_pay2 (F := Ideal) a (ix2 0 t) - ·) ?_
  refine max_apply _ t _ fun s => ?_
  show Scalar.select (IntOp.cmpi .eq (k0_pay1 (F := Ideal) d (ix2 s t)) (broadcastTo S8x256 (k0_pay3 (F := Ideal) a d) broadcasts_S1x256_S8x256 (ix2 s t))) (b (ix2 s t)) (a (ix2 s t)) = _
  rw [rows_apply, pay3_apply h t hK, pay1_apply h, (h s t).1, (h s t).2.1]
  have hs := bk_small (w := w) t s
  by_cases hc : bk (w t) 2016 s.val = K
  · rw [if_pos hc, hc]
    simp [IntOp.cmpi, Scalar.select, b2]
  · have hn : ¬BitVec.ofNat 32 (bk (w t) 2016 s.val) = BitVec.ofNat 32 K := by
      rw [Folds.ofNat_inj (by omega) (by omega)]; exact hc
    rw [if_neg hc]
    simp only [IntOp.cmpi, beq_eq_false_iff_ne.mpr hn]
    rfl

end Cert.KernelIdeal.Final

end
-- ==== Proof.RefLogits.lean ====
module

public import proofs.«01_k».proof.Proof.RefRun
public import proofs.«01_k».proof.Proof.Logit
public import Idealize.ShloMosaic.Lib.ValueIdx
public import Idealize.ShloMosaic.Lib.Pipeline.Value

@[expose] public section

set_option maxRecDepth 16384

/-! # The reference's logits are the head's logits

Each operand of the reference's two products, read at an index, and the logits they give. -/

noncomputable section

namespace Cert.Proof.Ref

open Cert.ReferenceIdeal Cert.ReferenceIdeal.Gen Idealize.ShloMosaic Idealize.ShloMosaic.TcCoe Idealize.ShloMosaic.ValueIdx
open Cert.Logit (eight logit)

/-- The activations in groups of 32. -/
theorem groups_apply (x : Vec Ideal S256x1x7168 .bf16) (t : Fin 256) (g : Fin 224) (l : Fin 32) :
    shapeCast S256x224x32 x shapeCasts_S256x1x7168_S256x224x32 (ix3 t g l) = x (ix3 t 0 ⟨32 * g.val + l.val, by omega⟩) :=
  shapeCast_apply x _ _ _ (by
    rw [Shape.rowMajor_val_three, Shape.rowMajor_val_three]
    show (t.val * 1 + 0) * 7168 + (32 * g.val + l.val) = (t.val * 224 + g.val) * 32 + l.val
    omega)

/-- Column `k` of a table of groups of 16. -/
theorem flat_apply {α : Type} (y : S256x224x16.Idx → α) (t : Fin 256) (k : Fin 3584) :
    shapeCast S256x3584 y shapeCasts_S256x224x16_S256x3584 (ix2 t k) = y (ix3 t ⟨k.val / 16, by omega⟩ ⟨k.val % 16, by omega⟩) :=
  shapeCast_apply y _ _ _ (by
    rw [Shape.rowMajor_val_three, Shape.rowMajor_val_two]
    show (t.val * 224 + k.val / 16) * 16 + k.val % 16 = t.val * 3584 + k.val
    omega)

/-- The activation that meets the low half of byte `k`. -/
theorem xLo_apply (x : Vec Ideal S256x1x7168 .bf16) (t : Fin 256) (k : Fin 3584) :
    xLo (F := Ideal) x (ix2 t k) = x (ix3 t 0 ⟨32 * (k.val / 16) + k.val % 16, by omega⟩) := by
  refine (flat_apply _ t k).trans ?_
  refine (extractStridedSlice_apply ![0, 0, 0] _ _ _ (ix3 t ⟨k.val / 16, by omega⟩ (⟨k.val % 16, by omega⟩ : Fin 32)) fun a => ?_).trans (groups_apply x _ _ _)
  match a with
  | ⟨0, _⟩ => show t.val = 0 + t.val; omega
  | ⟨1, _⟩ => show k.val / 16 = 0 + k.val / 16; omega
  | ⟨2, _⟩ => show k.val % 16 = 0 + k.val % 16; omega

/-- The activation that meets the high half of byte `k`. -/
theorem xHi_apply (x : Vec Ideal S256x1x7168 .bf16) (t : Fin 256) (k : Fin 3584) :
    xHi (F := Ideal) x (ix2 t k) = x (ix3 t 0 ⟨32 * (k.val / 16) + 16 + k.val % 16, by omega⟩) := by
  refine (flat_apply _ t k).trans ?_
  refine (extractStridedSlice_apply ![0, 0, 16] _ _ _ (ix3 t ⟨k.val / 16, by omega⟩ (⟨16 + k.val % 16, by omega⟩ : Fin 32)) fun a => ?_).trans
    ((groups_apply x _ _ _).trans (congrArg (fun p => x (ix3 t 0 p)) (Fin.ext (by show 32 * (k.val / 16) + (16 + k.val % 16) = 32 * (k.val / 16) + 16 + k.val % 16; omega))))
  match a with
  | ⟨0, _⟩ => show t.val = 0 + t.val; omega
  | ⟨1, _⟩ => show k.val / 16 = 0 + k.val / 16; omega
  | ⟨2, _⟩ => rfl

/-- The scale of byte `k` is that of its group of 16. -/
theorem sc_apply (s : Vec Ideal S16128x224 .bf16) (v : Fin 16128) (k : Fin 3584) :
    sc (F := Ideal) s (ix2 v k) = s (ix2 v ⟨k.val / 16, by omega⟩) := by
  refine (shapeCast_apply _ _ _ (ix3 v (⟨k.val / 16, by omega⟩ : Fin 224) (⟨k.val % 16, by omega⟩ : Fin 16)) ?_).trans ?_
  · rw [Shape.rowMajor_val_three, Shape.rowMajor_val_two]
    show (v.val * 224 + k.val / 16) * 16 + k.val % 16 = v.val * 3584 + k.val
    omega
  · exact broadcastInDim_apply _ _ s _ _ fun a => by
      match a with
      | ⟨0, _⟩ => rfl
      | ⟨1, _⟩ => rfl

/-- The dequantised low half of byte `k`. -/
theorem wLo_apply (w : Vec Ideal S16128x3584 .i8) (s : Vec Ideal S16128x224 .bf16) (v : Fin 16128) (k : Fin 3584) :
    wLo (F := Ideal) w s (ix2 v k) = (Nibble.lo (w (ix2 v k)) - eight) * s (ix2 v ⟨k.val / 16, by omega⟩) :=
  congrArg ((Nibble.lo (w (ix2 v k)) - eight) * ·) (sc_apply s v k)

/-- The dequantised high half of byte `k`. -/
theorem wHi_apply (w : Vec Ideal S16128x3584 .i8) (s : Vec Ideal S16128x224 .bf16) (v : Fin 16128) (k : Fin 3584) :
    wHi (F := Ideal) w s (ix2 v k) = (Nibble.hi (w (ix2 v k)) - eight) * s (ix2 v ⟨k.val / 16, by omega⟩) :=
  congrArg ((Nibble.hi (w (ix2 v k)) - eight) * ·) (sc_apply s v k)

/-- A product of activations and weights at token `t` and vocabulary row `v`. -/
theorem dot_apply (x : FVec Ideal S256x3584 .bf16) (w : FVec Ideal S16128x3584 .bf16) (t : Fin 256) (v : Fin 16128) :
    (Host.dotGeneral dot_S256x3584_S16128x3584_S256x16128_1_1_0_0_n_n none x w : FVec Ideal S256x16128 .f32) (ix2 t v)
      = ∑ k : Fin 3584, x (ix2 t k) * w (ix2 v k) := by
  let D := dot_S256x3584_S16128x3584_S256x16128_1_1_0_0_n_n
  have hD : D.contr.rank = 1 := rfl
  simp only [Host.dotGeneral]
  refine (Ideal.dotGeneral_apply D none HostSchedule.single x w (ix2 t v)).trans ?_
  refine (Equiv.sum_comp (contrEquiv1 D 3584 hD rfl).symm _).symm.trans ?_
  refine Finset.sum_congr rfl fun q _ => ?_
  have hl : D.lhsIdx (ix2 t v) ((contrEquiv1 D 3584 hD rfl).symm q) = ix2 t q := by
    funext a; match a with
    | ⟨0, _⟩ => rfl
    | ⟨1, _⟩ => exact Fin.ext (contrEquiv1_symm_val D 3584 hD rfl q)
  have hr : D.rhsIdx (ix2 t v) ((contrEquiv1 D 3584 hD rfl).symm q) = ix2 v q := by
    funext a; match a with
    | ⟨0, _⟩ => rfl
    | ⟨1, _⟩ => exact Fin.ext (contrEquiv1_symm_val D 3584 hD rfl q)
  rw [hl, hr]

/-- The reference's logits. -/
theorem logits_apply (x : Vec Ideal S256x1x7168 .bf16) (w : Vec Ideal S16128x3584 .i8) (s : Vec Ideal S16128x224 .bf16) (t : Fin 256) (v : Fin 16128) :
    logits (F := Ideal) x w s (ix3 t 0 v)
      = logit (fun p => x (ix3 t 0 p)) (fun k => w (ix2 v k)) (fun g => s (ix2 v g)) := by
  refine (shapeCast_apply _ _ _ (ix2 t v) ?_).trans ?_
  · rw [Shape.rowMajor_val_three, Shape.rowMajor_val_two]
    show t.val * 16128 + v.val = (t.val * 1 + 0) * 16128 + v.val
    omega
  · refine congrArg₂ (· + ·) ((dot_apply _ _ t v).trans (Finset.sum_congr rfl fun k _ => ?_)) ((dot_apply _ _ t v).trans (Finset.sum_congr rfl fun k _ => ?_))
    · rw [xLo_apply, wLo_apply]
    · rw [xHi_apply, wHi_apply]

end Cert.Proof.Ref

end
-- ==== Proof.RefTop.lean ====
module

public import proofs.«01_k».proof.Proof.RefLogits
public import proofs.«01_k».proof.Proof.Folds

@[expose] public section

set_option maxRecDepth 16384

/-! # The reference's three results

With `K` the first vocabulary row at which a token's logits are largest: the reference's largest logit is the logit at
`K`, its index is `K`, and its second largest is the largest of the logits other than the one at `K`. -/

noncomputable section

namespace Cert.Proof.Ref

open Cert.ReferenceIdeal Cert.ReferenceIdeal.Gen Idealize.ShloMosaic Idealize.ShloMosaic.TcCoe Idealize.ShloMosaic.ValueIdx
open Cert.Top2 (First others)

/-- Token `t`'s logits as a sequence. -/
def seqOf (L : FVec Ideal S256x1x16128 .f32) (t : Fin 256) (r : ℕ) : EReal := if h : r < 16128 then L (ix3 t 0 ⟨r, h⟩) else ⊥

/-- An entry of the sequence below the vocabulary's size is a logit. -/
theorem seqOf_fin (L : FVec Ideal S256x1x16128 .f32) (t : Fin 256) (v : Fin 16128) : seqOf L t v.val = L (ix3 t 0 v) := dif_pos v.isLt

/-- Dropping the vocabulary axis leaves one entry per token. -/
theorem reducesF : S256x1x16128.Reduces [2] S256x1 := by decide

/-- A maximum over the vocabulary. -/
theorem top_sup (L : FVec Ideal S256x1x16128 .f32) (t : Fin 256) : top (F := Ideal) L (ix2 t 0) = (Finset.range 16128).sup (seqOf L t) := by
  refine (Host.reduce_eq_fold_single (max : EReal → EReal → EReal) L _ reducesTo_S256x1x16128_S256x1_d2 reducesF h_S_ (ix2 t 0)).trans ?_
  refine (congrArg (fun z => (Finset.univ : Finset (Fin 16128)).fold max z (L ∘ reducesF.lift (ix2 t 0))) Folds.neg_inf).trans ?_
  refine Folds.fold_max 16128 _ _ fun v => ?_
  rw [seqOf_fin]
  refine congrArg L (funext fun a => ?_)
  match a with
  | ⟨0, _⟩ => exact Fin.ext rfl
  | ⟨1, _⟩ => exact Fin.ext rfl
  | ⟨2, _⟩ => exact Fin.ext rfl

/-- The largest logit. -/
theorem top_apply (L : FVec Ideal S256x1x16128 .f32) (t : Fin 256) {K : ℕ} (h : First (seqOf L t) 16128 K) :
    top (F := Ideal) L (ix2 t 0) = seqOf L t K := by
  rw [top_sup]
  exact le_antisymm (Finset.sup_le fun v hv => h.le v (Finset.mem_range.mp hv)) (Finset.le_sup (f := seqOf L t) (Finset.mem_range.mpr h.lt))

/-- The step of the argument of the maximum: the larger value, and of two equal ones the smaller index. -/
theorem reducer_eq (x y : EReal) {i j : ℕ} (hi : i < 2 ^ 31) (hj : j < 2 ^ 31) :
    reducer_argmax_f32_i32 (F := Ideal) (x, BitVec.ofNat 32 i) (y, BitVec.ofNat 32 j)
      = if y < x ∨ (x = y ∧ i < j) then (x, BitVec.ofNat 32 i) else (y, BitVec.ofNat 32 j) := by
  have hs := Folds.slt_ofNat hi hj
  simp only [reducer_argmax_f32_i32, Ideal.cmpf_def, Ideal.cmp, IntOp.cmpi, hs]
  rcases lt_trichotomy x y with hc | hc | hc
  · simp [hc.not_gt, hc.ne, IntOp.ori, IntOp.andi, Scalar.select]
  · subst hc
    by_cases hij : i < j <;> simp [hij, IntOp.ori, IntOp.andi, Scalar.select]
  · simp [hc, hc.ne', IntOp.ori, IntOp.andi, Scalar.select]

/-- A pair the search may hold: no larger than the largest value, and at it no earlier than its first place. -/
def Good (M : EReal) (K : ℕ) (p : EReal × BitVec 32) : Prop := ∃ i, i < 2 ^ 31 ∧ p.2 = BitVec.ofNat 32 i ∧ p.1 ≤ M ∧ (p.1 = M → K ≤ i)

/-- The step on two such pairs is such a pair, and is the largest value at its first place if either is. -/
theorem reducer_good (M : EReal) {K : ℕ} (hK : K < 2 ^ 31) (p q : EReal × BitVec 32) (hp : Good M K p) (hq : Good M K q) :
    Good M K (reducer_argmax_f32_i32 (F := Ideal) p q) ∧ (p = (M, BitVec.ofNat 32 K) ∨ q = (M, BitVec.ofNat 32 K) →
      reducer_argmax_f32_i32 (F := Ideal) p q = (M, BitVec.ofNat 32 K)) := by
  obtain ⟨x, a⟩ := p
  obtain ⟨y, b⟩ := q
  obtain ⟨i, hi, ea, hx, hxi⟩ := hp
  obtain ⟨j, hj, eb, hy, hyj⟩ := hq
  dsimp only at ea eb hx hy hxi hyj
  subst ea eb
  rw [reducer_eq x y hi hj]
  refine ⟨?_, ?_⟩
  · split_ifs
    · exact ⟨i, hi, rfl, hx, hxi⟩
    · exact ⟨j, hj, rfl, hy, hyj⟩
  · rintro (e | e)
    · obtain ⟨e1, e2⟩ := Prod.mk.inj e
      have e2 := (Folds.ofNat_inj hi hK).mp e2
      subst e1 e2
      split_ifs with hc
      · rfl
      · have hc := not_or.mp hc
        have hxy : y = x := le_antisymm hy (not_lt.mp hc.1)
        have h1 := hyj hxy
        have h2 : ¬i < j := fun h => hc.2 ⟨hxy.symm, h⟩
        rw [hxy, show j = i by omega]
    · obtain ⟨e1, e2⟩ := Prod.mk.inj e
      have e2 := (Folds.ofNat_inj hj hK).mp e2
      subst e1 e2
      rw [if_neg]
      rintro (hc | ⟨hc, hij⟩)
      · exact absurd hx (not_le.mpr hc)
      · have := hxi hc; omega

/-- The search over a list of such pairs that holds the largest value at its first place ends there. -/
theorem foldl_best (M : EReal) {K : ℕ} (hK : K < 2 ^ 31) (l : List (EReal × BitVec 32)) (s : EReal × BitVec 32) (hs : Good M K s)
    (hl : ∀ p ∈ l, Good M K p) (h : s = (M, BitVec.ofNat 32 K) ∨ (M, BitVec.ofNat 32 K) ∈ l) :
    l.foldl (reducer_argmax_f32_i32 (F := Ideal)) s = (M, BitVec.ofNat 32 K) := by
  induction l generalizing s with
  | nil => exact h.resolve_right List.not_mem_nil
  | cons p l ih =>
    have g := reducer_good M hK s p hs (hl p List.mem_cons_self)
    refine ih _ g.1 (fun q hq => hl q (List.mem_cons_of_mem _ hq)) ?_
    rcases h with h | h
    · exact Or.inl (g.2 (Or.inl h))
    · rcases List.mem_cons.mp h with h | h
      · exact Or.inl (g.2 (Or.inr h.symm))
      · exact Or.inr h

/-- The entries over token `t` are those of its row of logits. -/
theorem drop_eq (i : S256x1x16128.Idx) (t : Fin 256) : reducesTo_S256x1x16128_S256x1_d2.drop i = ix2 t 0 ↔ ∃ v : Fin 16128, i = ix3 t 0 v := by
  constructor
  · intro h
    refine ⟨i 2, funext fun a => ?_⟩
    match a with
    | ⟨0, _⟩ => exact Fin.ext (congrArg Fin.val (congrFun h 0))
    | ⟨1, _⟩ => exact Fin.ext (congrArg Fin.val (congrFun h 1))
    | ⟨2, _⟩ => rfl
  · rintro ⟨v, rfl⟩
    funext a
    match a with
    | ⟨0, _⟩ => rfl
    | ⟨1, _⟩ => rfl

/-- The pairs an argument of the maximum searches. -/
theorem mem_argReduceFiber {s r : Shape} {axes : List (Fin s.rank)} {α β : Type} (x : s.Idx → α) (y : s.Idx → β) (h : s.ReducesTo axes r) (j : r.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩; exact ⟨_, hn, rfl⟩
  · rintro ⟨i, hi, rfl⟩; exact ⟨s.rowMajor i, by rw [Equiv.symm_apply_apply]; exact hi, by rw [Equiv.symm_apply_apply]⟩

/-- The pairs searched for token `t`. -/
theorem mem_fiber (L : FVec Ideal S256x1x16128 .f32) (t : Fin 256) (p : EReal × BitVec 32) :
    p ∈ Host.argReduceFiber L (iotaInDim S256x1x16128 32 2) reducesTo_S256x1x16128_S256x1_d2 (ix2 t 0)
      ↔ ∃ v : Fin 16128, p = (L (ix3 t 0 v), BitVec.ofNat 32 v.val) := by
  rw [mem_argReduceFiber]
  constructor
  · rintro ⟨i, hi, hp⟩
    obtain ⟨v, rfl⟩ := (drop_eq i t).mp hi
    exact ⟨v, hp⟩
  · rintro ⟨v, hp⟩
    exact ⟨_, (drop_eq _ t).mpr ⟨v, rfl⟩, hp⟩

/-- An argument of the maximum over the extended reals is its step folded over the pairs it searches. -/
theorem argReduce_snd {s u r : Shape} {axes : List (Fin s.rank)} {β : Type} (f : Ideal .f32 × β → Ideal .f32 × β → Ideal .f32 × β)
    (x : FVec Ideal s .f32) (y : s.Idx → β) (ix : u.Idx → Ideal .f32) (iy : u.Idx → β) (h : s.ReducesTo axes r) (hu : 0 < u.numel)
    (T : r.Idx → β) (hT : T = fun j => (Host.argReduce f x y ix iy h hu j).2) (j : r.Idx)
    (p : Ideal .f32 × β) (hp : (Host.argReduceFiber x y h j).foldl f (ix (Shape.Idx.first hu), iy (Shape.Idx.first hu)) = p) :
    T j = p.2 := by
  rw [hT]
  show (Host.argReduce f x y ix iy h hu j).2 = p.2
  rw [Ideal.argReduce_eq_reduce2, Host.reduce2_eq_foldl_fiber, hp]

/-- `tok` at the ideal values, spelled out. -/
theorem tok_eq (L : FVec Ideal S256x1x16128 .f32) : tok (F := Ideal) L
    = fun j => (Host.argReduce reducer_argmax_f32_i32 L (iotaInDim S256x1x16128 32 2) (constant S_ .f32 0xFF800000#32) (constantI S_ 32 0#32) reducesTo_S256x1x16128_S256x1_d2 h_S_ j).2 := by
  delta tok
  exact rfl

/-- The index of the largest logit. -/
theorem tok_apply (L : FVec Ideal S256x1x16128 .f32) (t : Fin 256) {K : ℕ} (h : First (seqOf L t) 16128 K) :
    tok (F := Ideal) L (ix2 t 0) = BitVec.ofNat 32 K := by
  have hl := h.lt
  have hKs := seqOf_fin L t ⟨K, hl⟩
  dsimp only at hKs
  refine argReduce_snd reducer_argmax_f32_i32 L (iotaInDim S256x1x16128 32 2) (constant S_ .f32 0xFF800000#32) (constantI S_ 32 0#32)
    reducesTo_S256x1x16128_S256x1_d2 h_S_ (tok (F := Ideal) L) (tok_eq L) (ix2 t 0) (seqOf L t K, BitVec.ofNat 32 K) ?_
  refine foldl_best (seqOf L t K) (by omega) _ _ ⟨0, by decide, rfl, ?_, ?_⟩ (fun p hp => ?_) (Or.inr ?_)
  · exact Folds.neg_inf.le.trans bot_le
  · intro hb
    have hb : (⊥ : EReal) = seqOf L t K := Folds.neg_inf.symm.trans hb
    by_contra hc
    have := h.before 0 (by omega)
    rw [← hb] at this
    exact not_lt_bot this
  · obtain ⟨v, rfl⟩ := (mem_fiber L t p).mp hp
    have hvs := seqOf_fin L t v
    refine ⟨v.val, by omega, rfl, ?_, fun hv => ?_⟩
    · exact hvs.symm.le.trans (h.le v.val v.isLt)
    · by_contra hc
      have := h.before v.val (by omega)
      exact this.ne (hvs.trans hv)
  · exact (mem_fiber L t _).mpr ⟨⟨K, hl⟩, congrArg (fun z : EReal => (z, BitVec.ofNat 32 K)) hKs⟩

/-- Values with the one at each token's index `T` replaced by minus infinity. -/
theorem masked_apply (T : IVec S256x1 32) (L : FVec Ideal S256x1x16128 .f32) (t : Fin 256) (v : Fin 16128) :
    select (cmpi .eq (iotaInDim S256x1x16128 32 2) (broadcastInDim S256x1x16128 ![0, 1, 2] bcast_S256x1x1_S256x1x16128_0_1_2 (broadcastInDim S256x1x1 ![0, 1] bcast_S256x1_S256x1x1_0_1 T)))
      (broadcastInDim S256x1x16128 ![] bcast_S_S256x1x16128 (constant (F := Ideal) S_ .f32 0xFF800000#32)) L (ix3 t 0 v)
      = if BitVec.ofNat 32 v.val = T (ix2 t 0) then (⊥ : EReal) else L (ix3 t 0 v) := by
  have e : broadcastInDim S256x1x16128 ![0, 1, 2] bcast_S256x1x1_S256x1x16128_0_1_2 (broadcastInDim S256x1x1 ![0, 1] bcast_S256x1_S256x1x1_0_1 T) (ix3 t 0 v)
      = T (ix2 t 0) := by
    refine (broadcastInDim_apply _ _ _ _ (ix3 t 0 0) fun a => ?_).trans (broadcastInDim_apply _ _ _ _ (ix2 t 0) fun a => ?_)
    · match a with
      | ⟨0, _⟩ => rfl
      | ⟨1, _⟩ => rfl
      | ⟨2, _⟩ => rfl
    · match a with
      | ⟨0, _⟩ => rfl
      | ⟨1, _⟩ => rfl
  have ei : iotaInDim S256x1x16128 32 2 (ix3 t 0 v) = BitVec.ofNat 32 v.val := rfl
  have en : broadcastInDim S256x1x16128 ![] bcast_S_S256x1x16128 (constant (F := Ideal) S_ .f32 0xFF800000#32) (ix3 t 0 v) = (⊥ : EReal) := Folds.neg_inf
  generalize broadcastInDim S256x1x16128 ![0, 1, 2] bcast_S256x1x1_S256x1x16128_0_1_2 (broadcastInDim S256x1x1 ![0, 1] bcast_S256x1_S256x1x1_0_1 T) = B at e ⊢
  generalize broadcastInDim S256x1x16128 ![] bcast_S_S256x1x16128 (constant (F := Ideal) S_ .f32 0xFF800000#32) = N at en ⊢
  generalize iotaInDim S256x1x16128 32 2 = I at ei ⊢
  show Scalar.select (IntOp.cmpi .eq (I (ix3 t 0 v)) (B (ix3 t 0 v))) (N (ix3 t 0 v)) (L (ix3 t 0 v)) = _
  rw [e, ei, en]
  by_cases hc : BitVec.ofNat 32 v.val = T (ix2 t 0)
  · rw [if_pos hc, hc]
    simp [IntOp.cmpi, Scalar.select]
  · rw [if_neg hc]
    simp only [IntOp.cmpi, beq_eq_false_iff_ne.mpr hc]
    rfl

/-- The logits but the one at `K`. -/
theorem rest_apply (L : FVec Ideal S256x1x16128 .f32) (t : Fin 256) {K : ℕ} (h : First (seqOf L t) 16128 K) (v : Fin 16128) :
    rest (F := Ideal) L (ix3 t 0 v) = if v.val = K then (⊥ : EReal) else L (ix3 t 0 v) := by
  have hl := h.lt
  refine (masked_apply (tok (F := Ideal) L) L t v).trans ?_
  rw [tok_apply L t h]
  simp only [Folds.ofNat_inj (show v.val < 2 ^ 31 by omega) (show K < 2 ^ 31 by omega)]

/-- The second largest logit. -/
theorem second_apply (L : FVec Ideal S256x1x16128 .f32) (t : Fin 256) {K : ℕ} (h : First (seqOf L t) 16128 K) :
    top (F := Ideal) (rest (F := Ideal) L) (ix2 t 0) = others (seqOf L t) 16128 K := by
  rw [top_sup]
  unfold others
  refine le_antisymm (Finset.sup_le fun v hv => ?_) (Finset.sup_le fun v hv => ?_)
  · have hv := Finset.mem_range.mp hv
    rw [seqOf_fin (rest (F := Ideal) L) t ⟨v, hv⟩, rest_apply L t h]
    split_ifs with hc
    · exact bot_le
    · rw [← seqOf_fin L t ⟨v, hv⟩]
      exact Finset.le_sup (f := seqOf L t) (Finset.mem_erase.mpr ⟨hc, Finset.mem_range.mpr hv⟩)
  · obtain ⟨hc, hv⟩ := Finset.mem_erase.mp hv
    have hv' := Finset.mem_range.mp hv
    refine le_trans (le_of_eq ?_) (Finset.le_sup (f := seqOf (rest (F := Ideal) L) t) hv)
    rw [seqOf_fin (rest (F := Ideal) L) t ⟨v, hv'⟩, rest_apply L t h, if_neg hc]
    exact seqOf_fin L t ⟨v, hv'⟩

end Cert.Proof.Ref

end
-- ==== Proof.Agree.lean ====
module

public import proofs.«01_k».proof.Proof.KFinal
public import proofs.«01_k».proof.Proof.RefTop
public import proofs.«01_k».proof.Proof.Gen.KernelIdeal.Value

@[expose] public section

set_option maxRecDepth 16384

/-! # The two programs' results agree

Both programs' results, token by token, are the place `K` of the first largest logit, the largest logit less the second
largest, and the largest logit; and their logits are the same. -/

noncomputable section

namespace Cert.Proof.Agree

open Idealize.ShloMosaic Idealize.ShloMosaic.TcCoe Idealize.ShloMosaic.ValueIdx
open Cert.KernelIdeal Cert.KernelIdeal.Gen Cert.KernelIdeal.State Cert.KernelIdeal.Logits
open Cert.Top2 (First others)

/-- One row of 256 laid out from a column. -/
theorem column_apply {α : Type} (x : Cert.ReferenceIdeal.S256x1.Idx → α) (t : Fin 256) :
    shapeCast Cert.ReferenceIdeal.S1x256 x Cert.ReferenceIdeal.Gen.shapeCasts_S256x1_S1x256 (ix2 0 t) = x (ix2 t 0) :=
  shapeCast_apply x _ _ _ (by
    rw [Shape.rowMajor_val_two, Shape.rowMajor_val_two]
    show t.val * 1 + 0 = 0 * 256 + t.val
    omega)

/-- Two rows of 256 are equal when their entries are. -/
theorem row_ext {α : Type} (x y : Cert.KernelIdeal.S1x256.Idx → α) (h : ∀ t : Fin 256, x (ix2 0 t) = y (ix2 0 t)) : x = y := by
  funext j
  have hj : j = ix2 0 (j 1) := by
    funext a
    match a with
    | ⟨0, _⟩ => exact Fin.ext (by have : (j 0).val < 1 := (j 0).isLt; show (j 0).val = 0; omega)
    | ⟨1, _⟩ => rfl
  rw [hj]
  exact h _

/-- A row laid out from a column is the row with the column's entries. -/
theorem row_of_column {α : Type} (x : Cert.ReferenceIdeal.S256x1.Idx → α) (y : Cert.KernelIdeal.S1x256.Idx → α) (h : ∀ t : Fin 256, x (ix2 t 0) = y (ix2 0 t)) :
    shapeCast Cert.ReferenceIdeal.S1x256 x Cert.ReferenceIdeal.Gen.shapeCasts_S256x1_S1x256 = y :=
  row_ext _ y fun t => (column_apply x t).trans (h t)

/-- A difference of two columns, entry by entry. -/
theorem sub_apply (X Y : FVec Ideal Cert.ReferenceIdeal.S256x1 .f32) (t : Fin 256) (p q : EReal) (hX : X (ix2 t 0) = p) (hY : Y (ix2 t 0) = q) :
    subf X Y (ix2 t 0) = p - q := by
  subst hX hY
  rfl

variable (m : (ℓ : Loc nD τ sig) → Buf (Elt Ideal) ℓ) (c : Dev nD)

/-- The kernel's results for token `t`. -/
theorem kernel_apply (t : Fin 256) {K : ℕ} (h : First (u m c t) 16128 K) :
    Value.G3 m c (ix2 0 t) = BitVec.ofNat 32 K ∧ Value.G4 m c (ix2 0 t) = u m c t K - others (u m c t) 16128 K ∧ Value.G5 m c (ix2 0 t) = u m c t K := by
  obtain ⟨a, b, d, hs, h3, h4, h5⟩ := last m c
  have e := Value.outsAt0_sweep m c 20 (by decide)
  rw [Value.G3_last, Value.G4_last, Value.G5_last, ← e, h3, h4, h5]
  exact ⟨Final.pay3_apply hs t h, Final.pay4_apply hs t h, Final.pay2_apply hs t h⟩

/-- Columns that hold, token by token, the place of the largest logit, the largest and the second largest give the kernel's results. -/
theorem results_of (T : IVec Cert.ReferenceIdeal.S256x1 32) (X R : FVec Ideal Cert.ReferenceIdeal.S256x1 .f32)
    (h : ∀ (t : Fin 256) (K : ℕ), First (u m c t) 16128 K →
      T (ix2 t 0) = BitVec.ofNat 32 K ∧ X (ix2 t 0) = u m c t K ∧ R (ix2 t 0) = others (u m c t) 16128 K) :
    (shapeCast Cert.ReferenceIdeal.S1x256 T Cert.ReferenceIdeal.Gen.shapeCasts_S256x1_S1x256 : IVec S1x256 32) = Value.G3 m c
    ∧ (shapeCast Cert.ReferenceIdeal.S1x256 (subf X R) Cert.ReferenceIdeal.Gen.shapeCasts_S256x1_S1x256 : FVec Ideal S1x256 .f32) = Value.G4 m c
    ∧ (shapeCast Cert.ReferenceIdeal.S1x256 X Cert.ReferenceIdeal.Gen.shapeCasts_S256x1_S1x256 : FVec Ideal S1x256 .f32) = Value.G5 m c := by
  have key : ∀ t, ∃ K, First (u m c t) 16128 K := fun t => Top2.exists_first (u m c t) 16127
  refine ⟨row_of_column T _ fun t => ?_, row_of_column (subf X R) _ fun t => ?_, row_of_column X _ fun t => ?_⟩ <;> obtain ⟨K, hK⟩ := key t
  · exact (h t K hK).1.trans (kernel_apply m c t hK).1.symm
  · exact (sub_apply X R t _ _ (h t K hK).2.1 (h t K hK).2.2).trans (kernel_apply m c t hK).2.1.symm
  · exact (h t K hK).2.1.trans (kernel_apply m c t hK).2.2.symm

/-- With logits equal to the kernel's, the reference's columns are those. -/
theorem columns (L : FVec Ideal Cert.ReferenceIdeal.S256x1x16128 .f32) (hL : ∀ (t : Fin 256) (v : Fin 16128), L (ix3 t 0 v) = U m c t v)
    (t : Fin 256) (K : ℕ) (hK : First (u m c t) 16128 K) :
    Ref.tok (F := Ideal) L (ix2 t 0) = BitVec.ofNat 32 K ∧ Ref.top (F := Ideal) L (ix2 t 0) = u m c t K
      ∧ Ref.top (F := Ideal) (Ref.rest (F := Ideal) L) (ix2 t 0) = others (u m c t) 16128 K := by
  have hu : Ref.seqOf L t = u m c t := by
    funext r
    unfold Ref.seqOf u
    split_ifs with h
    · exact hL t ⟨r, h⟩
    · rfl
  rw [← hu] at hK ⊢
  exact ⟨Ref.tok_apply L t hK, Ref.top_apply L t hK, Ref.second_apply L t hK⟩

/-- The reference's logits are the kernel's when the arguments are the same. -/
theorem logits_eq (x : Vec Ideal S256x1x7168 .bf16) (w : Vec Ideal S16128x3584 .i8) (s : Vec Ideal S16128x224 .bf16)
    (hx : x = argX m c) (hw : w = argW m c) (hs : s = argS m c) (t : Fin 256) (v : Fin 16128) :
    Ref.logits (F := Ideal) x w s (ix3 t 0 v) = U m c t v := by
  subst hx hw hs
  exact Ref.logits_apply _ _ _ t v

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel's run: it ends without fault, its arguments unchanged, every semaphore at zero. -/
theorem frame_P : Cert.quiescent_Kernel := fun m ρ _ => Cert.Kernel.Gen.frame m ρ

/-- The ideal kernel's run, the same. -/
theorem frame_PI : Cert.quiescent_KernelIdeal := fun m ρ _ => Cert.KernelIdeal.Gen.frame m ρ

/-- The reference's run, the same: it has no semaphore. -/
theorem frame_RI : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Ref.run (F := Ideal) m ρ)

/-- The reference's three results are the kernel's, whatever the arguments. -/
theorem algebraic : Cert.algebraic_KernelIdeal_ReferenceIdeal := by
  intro m g m' g' _ hagree
  refine ⟨fun c => Cert.KernelIdeal.Value.G3 m c, fun c => Cert.KernelIdeal.Value.G4 m c, fun c => Cert.KernelIdeal.Value.G5 m c,
    Cert.KernelIdeal.Value.run m g, (θ_run Cert.ReferenceIdeal.defs _ _).mono (fun r h c => ?_) (Ref.run (F := Ideal) m' g')⟩
  have hr := Agree.results_of m c (Ref.tok (F := Ideal) (Ref.L m' c)) (Ref.top (F := Ideal) (Ref.L m' c)) (Ref.top (F := Ideal) (Ref.rest (F := Ideal) (Ref.L m' c)))
    (Agree.columns m c (Ref.L m' c) (Agree.logits_eq m c _ _ _ (hagree c).1 (hagree c).2.1 (hagree c).2.2))
  exact ⟨(h c).1.trans hr.1, (h c).2.1.trans hr.2.1, (h c).2.2.1.trans hr.2.2, (h c).2.2.2⟩

/-- The certificate: the three frames, the preservation, and the equality of the results. -/
theorem claim : Cert.Claim := ⟨Cert.Kernel.Gen.facts, Cert.KernelIdeal.Gen.facts, Cert.ReferenceIdeal.Gen.facts,
  frame_P, frame_PI, frame_RI, trivial, algebraic⟩

end Cert.Proof

end
